-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lanes_hold_four [hPre_lanes_hold_four : Cert.Pre_lanes_hold_four.Facts] (m : (ℓ : Loc Cert.KernelIdeal.nD Cert.KernelIdeal.τ Cert.KernelIdeal.sig) → Buf (Elt Ideal) ℓ) : Prop :=
  ∀ c : Dev Cert.KernelIdeal.nD,
    (Cert.Pre_lanes_hold_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lanes_hold_four [hPre_lanes_hold_four : Cert.Pre_lanes_hold_four.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lanes_hold_four.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_lanes_hold_four [hKernelIdeal : Cert.KernelIdeal.Facts] [hPre_lanes_hold_four : Cert.Pre_lanes_hold_four.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lanes_hold_four m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lanes_hold_four [hReferenceIdeal : Cert.ReferenceIdeal.Facts] [hPre_lanes_hold_four : Cert.Pre_lanes_hold_four.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lanes_hold_four m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_lanes_hold_four [hKernelIdeal : Cert.KernelIdeal.Facts] [hReferenceIdeal : Cert.ReferenceIdeal.Facts] [hPre_lanes_hold_four : Cert.Pre_lanes_hold_four.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lanes_hold_four m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_lanes_hold_four : Cert.Pre_lanes_hold_four.Facts),
    quiescent_Kernel (hKernel := hKernel)
    ∧ quiescent_KernelIdeal (hKernelIdeal := hKernelIdeal)
    ∧ quiescent_KernelIdeal_pre_lanes_hold_four (hKernelIdeal := hKernelIdeal) (hPre_lanes_hold_four := hPre_lanes_hold_four)
    ∧ quiescent_ReferenceIdeal (hReferenceIdeal := hReferenceIdeal)
    ∧ quiescent_ReferenceIdeal_pre_lanes_hold_four (hReferenceIdeal := hReferenceIdeal) (hPre_lanes_hold_four := hPre_lanes_hold_four)
    ∧ preserves_Kernel_KernelIdeal
    ∧ algebraic_KernelIdeal_ReferenceIdeal_pre_lanes_hold_four (hKernelIdeal := hKernelIdeal) (hReferenceIdeal := hReferenceIdeal) (hPre_lanes_hold_four := hPre_lanes_hold_four)
-- ==== Pre_lanes_hold_four.lean ====
abbrev S1024x128 : Shape := ⟨2, ![1024, 128]⟩
abbrev S100000x128 : Shape := ⟨2, ![100000, 128]⟩
abbrev S128x100000 : Shape := ⟨2, ![128, 100000]⟩
abbrev S1024x100000 : Shape := ⟨2, ![1024, 100000]⟩
abbrev S1024x10 : Shape := ⟨2, ![1024, 10]⟩
abbrev S1024x1 : Shape := ⟨2, ![1024, 1]⟩
abbrev S_ : Shape := ⟨0, ![]⟩
abbrev S1024x100096 : Shape := ⟨2, ![1024, 100096]⟩
abbrev S1024x782x128 : Shape := ⟨3, ![1024, 782, 128]⟩
abbrev S1024x128x782 : Shape := ⟨3, ![1024, 128, 782]⟩
abbrev S1024x128x5 : Shape := ⟨3, ![1024, 128, 5]⟩
abbrev S1024x128x1 : Shape := ⟨3, ![1024, 128, 1]⟩

class Facts : Prop where
  transposes_S100000x128_S128x100000_1_0 : S100000x128.Transposes [1, 0] S128x100000
  sliceFits_S1024x100000_S1024x10 : S1024x100000.Slices (fun _ => 0) S1024x10
  slices_S1024x10_S1024x1_0_9 : S1024x10.Slices ![0, 9] S1024x1
  pads_S1024x100000_S1024x100096_000_0960 : S1024x100000.Pads (![0, 0] : Fin 2 → Nat) ![0, 96] ![0, 0] S1024x100096
  h_S_ : 0 < S_.numel
  shapeCasts_S1024x100096_S1024x782x128 : S1024x100096.ShapeCasts S1024x782x128
  transposes_S1024x782x128_S1024x128x782_0_2_1 : S1024x782x128.Transposes [0, 2, 1] S1024x128x782
  sliceFits_S1024x128x782_S1024x128x5 : S1024x128x782.Slices (fun _ => 0) S1024x128x5
  slices_S1024x128x5_S1024x128x1_0_0_4 : S1024x128x5.Slices ![0, 0, 4] S1024x128x1
  shapeCasts_S1024x128x1_S1024x128 : S1024x128x1.ShapeCasts S1024x128
  bcast_S1024x1_S1024x128_0_1 : S1024x1.BroadcastsInDim S1024x128 (![0, 1] : Fin 2 → Fin S1024x128.rank)
  dot_S1024x128_S128x100000_S1024x100000_1_0_0_1_n_n_wf : DotDims.WF S1024x128 S128x100000 S1024x100000 [1] [0] [0] [1] [] []

variable [Facts]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf
def fn_pad {F : FTy → Type} [FloatOps F] (arg0 : FVec F S1024x100000 .f32) (arg1 : FVec F S_ .f32) : FVec F S1024x100096 .f32 :=
  let v0 : FVec F S_ .f32 := id arg1
  let v1 : FVec F S1024x100096 .f32 := (fun x v => pad S1024x100096 ![0, 0] ![0, 96] ![0, 0] x v pads_S1024x100000_S1024x100096_000_0960 h_S_) arg0 v0
  v1

def fn {F : FTy → Type} [FloatOps F] (main_arg0 : FVec F S1024x128 .f32) (main_arg1 : FVec F S100000x128 .f32) : IVec S1024x128 1 :=
  let main_v0 : FVec F S128x100000 .f32 := (transpose S128x100000 [1, 0] · transposes_S100000x128_S128x100000_1_0) main_arg1
  let main_v1 : FVec F S1024x100000 .f32 := (fun l r => Host.dotGeneral dot_S1024x128_S128x100000_S1024x100000_1_0_0_1_n_n none l r) main_arg0 main_v0
  let main_values : FVec F S1024x10 .f32 := (fun x => (Host.topK S1024x10 1 (FloatOps.cmpfTotal .gt) x sliceFits_S1024x100000_S1024x10).1) main_v1
  let main_indices : IVec S1024x10 32 := (fun x => (Host.topK S1024x10 1 (FloatOps.cmpfTotal .gt) x sliceFits_S1024x100000_S1024x10).2) main_v1
  let main_v2 : FVec F S1024x1 .f32 := (extractStridedSlice S1024x1 ![0, 9] · slices_S1024x10_S1024x1_0_9) main_values
  let main_cst : FVec F S_ .f32 := constant S_ .f32 0xFF800000#32
  let main_v3 : FVec F S1024x100096 .f32 := fn_pad (F := F) main_v1 main_cst
  let main_v4 : FVec F S1024x782x128 .f32 := shapeCast S1024x782x128 main_v3 shapeCasts_S1024x100096_S1024x782x128
  let main_v5 : FVec F S1024x128x782 .f32 := (transpose S1024x128x782 [0, 2, 1] · transposes_S1024x782x128_S1024x128x782_0_2_1) main_v4
  let main_values_0 : FVec F S1024x128x5 .f32 := (fun x => (Host.topK S1024x128x5 2 (FloatOps.cmpfTotal .gt) x sliceFits_S1024x128x782_S1024x128x5).1) main_v5
  let main_indices_1 : IVec S1024x128x5 32 := (fun x => (Host.topK S1024x128x5 2 (FloatOps.cmpfTotal .gt) x sliceFits_S1024x128x782_S1024x128x5).2) main_v5
  let main_v6 : FVec F S1024x128x1 .f32 := (extractStridedSlice S1024x128x1 ![0, 0, 4] · slices_S1024x128x5_S1024x128x1_0_0_4) main_values_0
  let main_v7 : FVec F S1024x128 .f32 := shapeCast S1024x128 main_v6 shapeCasts_S1024x128x1_S1024x128
  let main_v8 : FVec F S1024x128 .f32 := broadcastInDim S1024x128 ![0, 1] bcast_S1024x1_S1024x128_0_1 main_v2
  let main_v9 : IVec S1024x128 1 := cmpf .olt main_v7 main_v8
  main_v9
-- ==== Kernel.lean ====
abbrev S1024x128 : Shape := ⟨2, ![1024, 128]⟩
abbrev S100000x128 : Shape := ⟨2, ![100000, 128]⟩
abbrev S_ : Shape := ⟨0, ![]⟩
abbrev S100352x128 : Shape := ⟨2, ![100352, 128]⟩
abbrev S1024x10 : Shape := ⟨2, ![1024, 10]⟩
abbrev S2048x128 : Shape := ⟨2, ![2048, 128]⟩
abbrev S1024x640 : Shape := ⟨2, ![1024, 640]⟩
abbrev S1024x2048 : Shape := ⟨2, ![1024, 2048]⟩
abbrev S32x640 : Shape := ⟨2, ![32, 640]⟩
abbrev S32x128 : Shape := ⟨2, ![32, 128]⟩
abbrev S1024 : Shape := ⟨1, ![1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S_, .i32⟩
  | .hbm, ⟨3, _⟩ => ⟨S_, .f32⟩
  | .hbm, ⟨4, _⟩ => ⟨S100352x128, .f32⟩
  | .hbm, ⟨5, _⟩ => ⟨S1024x10, .f32⟩
  | .hbm, ⟨6, _⟩ => ⟨S1024x10, .i32⟩
  | .local _ .vmem, ⟨0, _⟩ => ⟨S1024x128, .f32⟩
  | .local _ .vmem, ⟨1, _⟩ => ⟨S2048x128, .f32⟩
  | .local _ .vmem, ⟨2, _⟩ => ⟨S2048x128, .f32⟩
  | .local _ .vmem, ⟨3, _⟩ => ⟨S1024x10, .f32⟩
  | .local _ .vmem, ⟨4, _⟩ => ⟨S1024x10, .i32⟩
  | .local _ .vmem, ⟨5, _⟩ => ⟨S1024x640, .f32⟩
  | .local _ .vmem, ⟨6, _⟩ => ⟨S1024x640, .i32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_call0_v0 : Ref sig .tc := ⟨.hbm, 3, rfl⟩
abbrev main_call0_v0 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨2, ![1, 49], ![false, false]⟩

def k0_cond3 (i : grid0.Coords) : BitVec 1 :=
  let arg1 : BitVec 32 := BitVec.ofNat 32 (i 1).val
  let c48_i32_5 : BitVec 32 := 48#32
  let v10 : BitVec 1 := Scalar.cmpi .eq arg1 c48_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x10 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== ReferenceIdeal.lean ====
abbrev S1024x128 : Shape := ⟨2, ![1024, 128]⟩
abbrev S100000x128 : Shape := ⟨2, ![100000, 128]⟩
abbrev S128x100000 : Shape := ⟨2, ![128, 100000]⟩
abbrev S1024x100000 : Shape := ⟨2, ![1024, 100000]⟩
abbrev S1024x10 : Shape := ⟨2, ![1024, 10]⟩

abbrev nBuf : Space → Nat
  | .hbm => 6
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S128x100000, .f32⟩
  | .hbm, ⟨3, _⟩ => ⟨S1024x100000, .f32⟩
  | .hbm, ⟨4, _⟩ => ⟨S1024x10, .f32⟩
  | .hbm, ⟨5, _⟩ => ⟨S1024x10, .i32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩

abbrev nD : Nat := 1
abbrev τ : Topo := Topo.v7x

variable {F : FTy → Type} [FloatOps F]
-- ==== Proof.Chain.lean ====
module

public import proofs.«01_k».proof.Proof.Gen.KernelIdeal.Value

@[expose] public section
noncomputable section

/-!
# The kernel's lane lists, as the program runs them

One group of 32 rows keeps, in each of the 128 lanes, five scores and four chunk numbers; a chunk of 128 scores is put
into all lists by the same vector operations. This module says that in one definition (`VSt.step`), repeats it over the
chunks of a key block (`run`) and over the row groups (`pcs`), leaving the stores the body makes.
-/

namespace Cert.TopLanes

open Idealize.ShloMosaic Cert.KernelIdeal Cert.KernelIdeal.Gen

variable {F : FTy → Type} [FloatOps F]

/-- Row groups of 32 rows in a query block. -/
abbrev NG : ℕ := 32

/-- The lists of one row group: five scores and four chunk numbers a lane. -/
structure VSt (F : FTy → Type) where
  t1 : FVec F S32x128 .f32
  t2 : FVec F S32x128 .f32
  t3 : FVec F S32x128 .f32
  t4 : FVec F S32x128 .f32
  t5 : FVec F S32x128 .f32
  i1 : IVec S32x128 32
  i2 : IVec S32x128 32
  i3 : IVec S32x128 32
  i4 : IVec S32x128 32

/-- One chunk `x`, numbered `g`, put into the lists. -/
def VSt.step (x : FVec F S32x128 .f32) (g : BitVec 32) (s : VSt F) : VSt F where
  t1 := maximumf s.t1 x
  t2 := maximumf s.t2 (minimumf s.t1 x)
  t3 := maximumf s.t3 (minimumf s.t2 (minimumf s.t1 x))
  t4 := maximumf s.t4 (minimumf s.t3 (minimumf s.t2 (minimumf s.t1 x)))
  t5 := maximumf s.t5 (minimumf s.t4 (minimumf s.t3 (minimumf s.t2 (minimumf s.t1 x))))
  i1 := select (cmpf .ogt x s.t1) (broadcast S32x128 g) s.i1
  i2 := select (cmpf .ogt x s.t2) (select (cmpf .ogt x s.t1) s.i1 (broadcast S32x128 g)) s.i2
  i3 := select (cmpf .ogt x s.t3) (select (cmpf .ogt x s.t2) s.i2 (broadcast S32x128 g)) s.i3
  i4 := select (cmpf .ogt x s.t4) (select (cmpf .ogt x s.t3) s.i3 (broadcast S32x128 g)) s.i4

/-- The lists as the scratch rows hold them, slot `k` in columns `128 k` to `128 k + 127`. -/
def VSt.load (tv : Vec F S32x640 .f32) (ti : Vec F S32x640 .i32) : VSt F where
  t1 := extractStridedSlice S32x128 ![0, 0] tv slices_S32x640_o0_0_S32x128
  t2 := extractStridedSlice S32x128 ![0, 128] tv slices_S32x640_o0_128_S32x128
  t3 := extractStridedSlice S32x128 ![0, 256] tv slices_S32x640_o0_256_S32x128
  t4 := extractStridedSlice S32x128 ![0, 384] tv slices_S32x640_o0_384_S32x128
  t5 := extractStridedSlice S32x128 ![0, 512] tv slices_S32x640_o0_512_S32x128
  i1 := extractStridedSlice S32x128 ![0, 0] ti slices_S32x640_o0_0_S32x128
  i2 := extractStridedSlice S32x128 ![0, 128] ti slices_S32x640_o0_128_S32x128
  i3 := extractStridedSlice S32x128 ![0, 256] ti slices_S32x640_o0_256_S32x128
  i4 := extractStridedSlice S32x128 ![0, 384] ti slices_S32x640_o0_384_S32x128

/-- Slot `k` of the scores. -/
def VSt.slotT (s : VSt F) : Fin 5 → FVec F S32x128 .f32 := ![s.t1, s.t2, s.t3, s.t4, s.t5]

/-- Slot `k` of the chunk numbers: the fourth stands in the fifth slot too. -/
def VSt.slotI (s : VSt F) : Fin 5 → IVec S32x128 32 := ![s.i1, s.i2, s.i3, s.i4, s.i4]

omit [FloatOps F] in
theorem slots_fit {α : Type} (f : Fin 5 → S32x128.Idx → α) :
    Shape.Concatenates ((List.ofFn fun n : Fin 5 => (⟨S32x128, f n⟩ : (s : Shape) × (s.Idx → α))).map (·.1)) S32x640 1 := by
  simp only [List.map_ofFn, Function.comp_def]
  exact concatenates_S32x128_S32x128_S32x128_S32x128_S32x128_S32x640_d1

/-- The scores as they are stored. -/
def VSt.rowT (s : VSt F) : Vec F S32x640 .f32 :=
  shapeCast S32x640 (concatenate S32x640 1 (List.ofFn fun n : Fin 5 => ⟨S32x128, s.slotT n⟩) (slots_fit s.slotT))
    shapeCasts_S32x640_S32x640

/-- The chunk numbers as they are stored. -/
def VSt.rowI (s : VSt F) : Vec F S32x640 .i32 :=
  shapeCast S32x640 (concatenate S32x640 1 (List.ofFn fun n : Fin 5 => ⟨S32x128, s.slotI n⟩) (slots_fit s.slotI))
    shapeCasts_S32x640_S32x640

theorem slices_chunk (g c : ℕ) (hg : g < NG) (hc : c < 16) : S1024x2048.Slices ![32 * g, 128 * c] S32x128 := by
  have hg' : g < 32 := hg
  refine ⟨rfl, fun a => ?_⟩
  fin_cases a <;> simp [S1024x2048, S32x128] <;> omega

theorem inb_group (g : ℕ) (hg : g < NG) : ∀ a, (![32 * g, 0] : Fin 2 → Nat) a + S32x640.size a ≤ S1024x640.size a := by
  have hg' : g < 32 := hg
  intro a
  fin_cases a <;> simp [S1024x640, S32x640] <;> omega

/-- Chunk `c` of a key block's scores, rows of group `g`. -/
def chunk (v3 : FVec F S1024x2048 .f32) (g c : ℕ) (hg : g < NG) (hc : c < 16) : FVec F S32x128 .f32 :=
  extractStridedSlice S32x128 ![32 * g, 128 * c] v3 (slices_chunk g c hg hc)

/-- The same chunk with the lanes from the end of the keys on at −∞. -/
def chunkM (v3 : FVec F S1024x2048 .f32) (a1 : BitVec 32) (g c : ℕ) (hg : g < NG) (hc : c < 16) : FVec F S32x128 .f32 :=
  select (cmpi .slt (iota .tc S32x128 32 [1] iota_S32x128_d1_w32)
      (broadcast S32x128 (Scalar.subi (Scalar.subi 100000#32 (Scalar.muli a1 2048#32)) (BitVec.ofNat 32 (128 * c)))))
    (chunk v3 g c hg hc) (broadcast S32x128 (Scalar.ofBits .f32 0xFF800000#32))

/-- A way to read a chunk. -/
abbrev Chunks (F : FTy → Type) := (g c : ℕ) → g < NG → c < 16 → FVec F S32x128 .f32

/-- The first `n` chunks put in. -/
def run (X : Chunks F) (a1 : BitVec 32) (g : ℕ) (hg : g < NG) (s : VSt F) : (n : ℕ) → n ≤ 16 → VSt F
  | 0, _ => s
  | n + 1, h => (run X a1 g hg s n (Nat.le_of_succ_le h)).step (X g n hg h) (Scalar.addi (Scalar.muli a1 16#32) (BitVec.ofNat 32 n))

/-- The rows of group `g`. -/
abbrev grp (g : ℕ) (hg : g < NG) : Rect S1024x640 := Rect.unit (s := S1024x640) ![32 * g, 0] S32x640.size (inb_group g hg)

/-- The stores of the first `n` groups, last first, each group's lists read by `ldT`, `ldI` after the stores before. -/
def pcs (X : Chunks F) (a1 : BitVec 32)
    (ldT : List (View.Piece (Elt F) S1024x640 .f32) → (g : ℕ) → g < NG → Vec F S32x640 .f32)
    (ldI : List (View.Piece (Elt F) S1024x640 .i32) → (g : ℕ) → g < NG → Vec F S32x640 .i32)
    (L : List (View.Piece (Elt F) S1024x640 .f32)) (M : List (View.Piece (Elt F) S1024x640 .i32)) :
    (n : ℕ) → n ≤ NG → List (View.Piece (Elt F) S1024x640 .f32) × List (View.Piece (Elt F) S1024x640 .i32)
  | 0, _ => (L, M)
  | n + 1, h =>
    let p := pcs X a1 ldT ldI L M n (Nat.le_of_succ_le h)
    let s := run X a1 n h (VSt.load (ldT p.1 n h) (ldI p.2 n h)) 16 le_rfl
    (⟨grp n h, s.rowT⟩ :: p.1, ⟨grp n h, s.rowI⟩ :: p.2)

end Cert.TopLanes
end
-- ==== Proof.PiecesB.lean ====
module

public import proofs.«01_k».proof.Proof.Chain

@[expose] public section
set_option maxRecDepth 16384
noncomputable section

/-! # What an inner key block's stores leave -/

namespace Cert.TopLanes

open Idealize.ShloMosaic Idealize.ShloMosaic.Tactic Cert.KernelIdeal Cert.KernelIdeal.Gen

variable {F : FTy → Type} [FloatOps F]

/-- The block's scores. -/
abbrev scoresOf (arg2 : Memref sig .tc .vmem S1024x128 .f32) (harg2 : arg2.IsWhole) (arg3 : Memref sig .tc .vmem S2048x128 .f32)
    (harg3 : arg3.IsWhole) (x0 : Vec F S1024x128 .f32) (x1 : Vec F S2048x128 .f32) : FVec F S1024x2048 .f32 :=
  k0_pay1 (View.readAt (Elt F) arg2.view (Rect.unit (s := S1024x128) ![0, 0] S1024x128.size inb_S1024x128_S1024x128_0_0).toLoadRect (harg2.unread x0))
    (View.readAt (Elt F) arg3.view (Rect.unit (s := S2048x128) ![0, 0] S2048x128.size inb_S2048x128_S2048x128_0_0).toLoadRect (harg3.unread x1))

/-- The lists of a group as the point before left them. -/
abbrev keptT (arg6 : Memref sig .tc .vmem S1024x640 .f32) (harg6 : arg6.IsWhole) (xs0 : Vec F S1024x640 .f32) :
    List (View.Piece (Elt F) S1024x640 .f32) → (g : ℕ) → g < NG → Vec F S32x640 .f32 :=
  fun _ g hg => View.readAt (Elt F) arg6.view (grp g hg).toLoadRect (harg6.unread xs0)

abbrev keptI (arg7 : Memref sig .tc .vmem S1024x640 .i32) (harg7 : arg7.IsWhole) (xs1 : Vec F S1024x640 .i32) :
    List (View.Piece (Elt F) S1024x640 .i32) → (g : ℕ) → g < NG → Vec F S32x640 .i32 :=
  fun _ g hg => View.readAt (Elt F) arg7.view (grp g hg).toLoadRect (harg7.unread xs1)

variable (c : Dev nD) (i : grid0.Coords) (arg2 : Memref sig .tc .vmem S1024x128 .f32) (harg2 : arg2.IsWhole)
  (arg3 : Memref sig .tc .vmem S2048x128 .f32) (harg3 : arg3.IsWhole) (arg4 : Memref sig .tc .vmem S1024x10 .f32) (harg4 : arg4.IsWhole)
  (arg5 : Memref sig .tc .vmem S1024x10 .i32) (harg5 : arg5.IsWhole) (arg6 : Memref sig .tc .vmem S1024x640 .f32) (harg6 : arg6.IsWhole)
  (arg7 : Memref sig .tc .vmem S1024x640 .i32) (harg7 : arg7.IsWhole)
  (x0 : Vec F S1024x128 .f32) (x1 : Vec F S2048x128 .f32) (xs0 : Vec F S1024x640 .f32) (xs1 : Vec F S1024x640 .i32)

theorem pieces_B_T (hc0 : ¬cond0_0 i) (hc1 : cond0_1 i) (hc2 : ¬cond0_2 i) :
    (kernelRun0_B c i arg2 harg2 arg3 harg3 arg4 harg4 arg5 harg5 arg6 harg6 arg7 harg7 hc0 hc1 hc2 x0 x1 xs0 xs1).2.2.1
      = (pcs (chunk (scoresOf arg2 harg2 arg3 harg3 x0 x1)) (BitVec.ofNat 32 (i 1).val) (keptT arg6 harg6 xs0) (keptI arg7 harg7 xs1)
          [] [] NG le_rfl).1 := by
  sl_kernel_rfl

theorem pieces_B_I (hc0 : ¬cond0_0 i) (hc1 : cond0_1 i) (hc2 : ¬cond0_2 i) :
    (kernelRun0_B c i arg2 harg2 arg3 harg3 arg4 harg4 arg5 harg5 arg6 harg6 arg7 harg7 hc0 hc1 hc2 x0 x1 xs0 xs1).2.2.2.1
      = (pcs (chunk (scoresOf arg2 harg2 arg3 harg3 x0 x1)) (BitVec.ofNat 32 (i 1).val) (keptT arg6 harg6 xs0) (keptI arg7 harg7 xs1)
          [] [] NG le_rfl).2 := by
  sl_kernel_rfl

end Cert.TopLanes
end
-- ==== Proof.PiecesA.lean ====
module

public import proofs.«01_k».proof.Proof.PiecesB

@[expose] public section
set_option maxRecDepth 16384
noncomputable section

/-! # What the first key block's stores leave -/

namespace Cert.TopLanes

open Idealize.ShloMosaic Idealize.ShloMosaic.Tactic Cert.KernelIdeal Cert.KernelIdeal.Gen

variable {F : FTy → Type} [FloatOps F]

/-- The whole buffer. -/
abbrev whole640 : Rect S1024x640 := Rect.unit (s := S1024x640) ![0, 0] S1024x640.size inb_S1024x640_S1024x640_0_0

/-- The first point's fills. -/
abbrev fillT : List (View.Piece (Elt F) S1024x640 .f32) := [⟨whole640, k0_pay2⟩]
abbrev fillI : List (View.Piece (Elt F) S1024x640 .i32) := [⟨whole640, k0_pay3⟩]

/-- A group's lists read back after the stores `L`. -/
abbrev backT (arg6 : Memref sig .tc .vmem S1024x640 .f32) :
    List (View.Piece (Elt F) S1024x640 .f32) → (g : ℕ) → g < NG → Vec F S32x640 .f32 :=
  fun L g hg => arg6.view.readCov L (grp g hg).toLoadRect

abbrev backI (arg7 : Memref sig .tc .vmem S1024x640 .i32) :
    List (View.Piece (Elt F) S1024x640 .i32) → (g : ℕ) → g < NG → Vec F S32x640 .i32 :=
  fun L g hg => arg7.view.readCov L (grp g hg).toLoadRect

variable (c : Dev nD) (i : grid0.Coords) (arg2 : Memref sig .tc .vmem S1024x128 .f32) (harg2 : arg2.IsWhole)
  (arg3 : Memref sig .tc .vmem S2048x128 .f32) (harg3 : arg3.IsWhole) (arg4 : Memref sig .tc .vmem S1024x10 .f32) (harg4 : arg4.IsWhole)
  (arg5 : Memref sig .tc .vmem S1024x10 .i32) (harg5 : arg5.IsWhole) (arg6 : Memref sig .tc .vmem S1024x640 .f32) (harg6 : arg6.IsWhole)
  (arg7 : Memref sig .tc .vmem S1024x640 .i32) (harg7 : arg7.IsWhole)
  (x0 : Vec F S1024x128 .f32) (x1 : Vec F S2048x128 .f32)

theorem pieces_A_T (hc0 : cond0_0 i) (hc1 : cond0_1 i) (hc2 : ¬cond0_2 i) :
    (kernelRun0_A c i arg2 harg2 arg3 harg3 arg4 harg4 arg5 harg5 arg6 harg6 arg7 harg7 hc0 hc1 hc2 x0 x1).2.2.1
      = (pcs (chunk (scoresOf arg2 harg2 arg3 harg3 x0 x1)) (BitVec.ofNat 32 (i 1).val) (backT arg6) (backI arg7)
          fillT fillI NG le_rfl).1 := by
  sl_kernel_rfl

theorem pieces_A_I (hc0 : cond0_0 i) (hc1 : cond0_1 i) (hc2 : ¬cond0_2 i) :
    (kernelRun0_A c i arg2 harg2 arg3 harg3 arg4 harg4 arg5 harg5 arg6 harg6 arg7 harg7 hc0 hc1 hc2 x0 x1).2.2.2.1
      = (pcs (chunk (scoresOf arg2 harg2 arg3 harg3 x0 x1)) (BitVec.ofNat 32 (i 1).val) (backT arg6) (backI arg7)
          fillT fillI NG le_rfl).2 := by
  sl_kernel_rfl

end Cert.TopLanes
end
-- ==== Proof.Draw.lean ====
module

public import proofs.«01_k».proof.Proof.Chain

@[expose] public section
noncomputable section

/-!
# The ten rounds after the last key block

Each round takes a row's greatest kept score, the least column holding it, and sets that one column's cell to −∞.
-/

namespace Cert.TopLanes

open Idealize.ShloMosaic Cert.KernelIdeal Cert.KernelIdeal.Gen

variable {F : FTy → Type} [FloatOps F]

theorem lanes_fit {α : Type} (f : S1024x128.Idx → α) :
    Shape.Concatenates ((List.ofFn fun _ : Fin 5 => (⟨S1024x128, f⟩ : (s : Shape) × (s.Idx → α))).map (·.1)) S1024x640 1 := by
  simp only [List.map_ofFn, Function.comp_def]
  exact concatenates_S1024x128_S1024x128_S1024x128_S1024x128_S1024x128_S1024x640_d1

theorem tens_fit {α : Type} (f : Fin 10 → S1024x1.Idx → α) :
    Shape.Concatenates ((List.ofFn fun n : Fin 10 => (⟨S1024x1, f n⟩ : (s : Shape) × (s.Idx → α))).map (·.1)) S1024x10 1 := by
  simp only [List.map_ofFn, Function.comp_def]
  exact concatenates_S1024x1_S1024x1_S1024x1_S1024x1_S1024x1_S1024x1_S1024x1_S1024x1_S1024x1_S1024x1_S1024x10_d1

/-- The key column of every cell: its chunk number times 128, plus its lane. -/
def colsOf (ti : Vec F S1024x640 .i32) : IVec S1024x640 32 :=
  addi (muli ti (broadcast S1024x640 128#32))
    (concatenate S1024x640 1 (List.ofFn fun _ : Fin 5 => ⟨S1024x128, iota .tc S1024x128 32 [1] iota_S1024x128_d1_w32⟩) (lanes_fit _))

/-- A row's greatest score. -/
def top (cv : FVec F S1024x640 .f32) : FVec F S1024x1 .f32 :=
  shapeCast S1024x1 (multiReduction .maximumf [1] S1024 cv 0xFF800000#32 reduces_S1024x640_S1024 (.inl rfl) rfl) shapeCasts_S1024_S1024x1

/-- The cells holding it. -/
def isTop (cv : FVec F S1024x640 .f32) : IVec S1024x640 1 := cmpf .oeq cv (broadcastTo S1024x640 (top cv) broadcasts_S1024x1_S1024x640)

/-- The least column among them. -/
def pick (col : IVec S1024x640 32) (cv : FVec F S1024x640 .f32) : IVec S1024x1 32 :=
  shapeCast S1024x1 (multiReductionI .minsi [1] S1024 (select (isTop cv) col (broadcast S1024x640 2147483647#32)) 2147483647#32
    reduces_S1024x640_S1024 rfl) shapeCasts_S1024_S1024x1

/-- That cell taken out. -/
def strike (col : IVec S1024x640 32) (cv : FVec F S1024x640 .f32) : FVec F S1024x640 .f32 :=
  select (andi (isTop cv) (cmpi .eq col (broadcastTo S1024x640 (pick col cv) broadcasts_S1024x1_S1024x640)))
    (broadcast S1024x640 (Scalar.ofBits .f32 0xFF800000#32)) cv

/-- The cells before round `n`. -/
def left (col : IVec S1024x640 32) (cv : FVec F S1024x640 .f32) : ℕ → FVec F S1024x640 .f32
  | 0 => cv
  | n + 1 => strike col (left col cv n)

/-- The ten scores. -/
def tenT (col : IVec S1024x640 32) (cv : FVec F S1024x640 .f32) : FVec F S1024x10 .f32 :=
  concatenate S1024x10 1 (List.ofFn fun n : Fin 10 => ⟨S1024x1, top (left col cv n.val)⟩) (tens_fit _)

/-- The ten columns. -/
def tenI (col : IVec S1024x640 32) (cv : FVec F S1024x640 .f32) : IVec S1024x10 32 :=
  concatenate S1024x10 1 (List.ofFn fun n : Fin 10 => ⟨S1024x1, pick col (left col cv n.val)⟩) (tens_fit _)

end Cert.TopLanes
end
-- ==== Proof.PiecesC.lean ====
module

public import proofs.«01_k».proof.Proof.PiecesA
public import proofs.«01_k».proof.Proof.Draw

@[expose] public section
set_option maxRecDepth 16384
noncomputable section

/-! # What the last key block's stores leave -/

namespace Cert.TopLanes

open Idealize.ShloMosaic Idealize.ShloMosaic.Tactic Cert.KernelIdeal Cert.KernelIdeal.Gen

variable {F : FTy → Type} [FloatOps F]

/-- The stores of the last key block. -/
abbrev lastPcs (i : grid0.Coords) (arg2 : Memref sig .tc .vmem S1024x128 .f32) (harg2 : arg2.IsWhole)
    (arg3 : Memref sig .tc .vmem S2048x128 .f32) (harg3 : arg3.IsWhole) (arg6 : Memref sig .tc .vmem S1024x640 .f32) (harg6 : arg6.IsWhole)
    (arg7 : Memref sig .tc .vmem S1024x640 .i32) (harg7 : arg7.IsWhole)
    (x0 : Vec F S1024x128 .f32) (x1 : Vec F S2048x128 .f32) (xs0 : Vec F S1024x640 .f32) (xs1 : Vec F S1024x640 .i32) :=
  pcs (chunkM (scoresOf arg2 harg2 arg3 harg3 x0 x1) (BitVec.ofNat 32 (i 1).val)) (BitVec.ofNat 32 (i 1).val)
    (keptT arg6 harg6 xs0) (keptI arg7 harg7 xs1) [] [] NG le_rfl

/-- The scores read back after them. -/
abbrev lastT (arg6 : Memref sig .tc .vmem S1024x640 .f32) (L : List (View.Piece (Elt F) S1024x640 .f32)) : Vec F S1024x640 .f32 :=
  arg6.view.readCov L whole640.toLoadRect

/-- The chunk numbers read back after them. -/
abbrev lastI (arg7 : Memref sig .tc .vmem S1024x640 .i32) (L : List (View.Piece (Elt F) S1024x640 .i32)) : Vec F S1024x640 .i32 :=
  arg7.view.readCov L whole640.toLoadRect

variable (c : Dev nD) (i : grid0.Coords) (arg2 : Memref sig .tc .vmem S1024x128 .f32) (harg2 : arg2.IsWhole)
  (arg3 : Memref sig .tc .vmem S2048x128 .f32) (harg3 : arg3.IsWhole) (arg4 : Memref sig .tc .vmem S1024x10 .f32) (harg4 : arg4.IsWhole)
  (arg5 : Memref sig .tc .vmem S1024x10 .i32) (harg5 : arg5.IsWhole) (arg6 : Memref sig .tc .vmem S1024x640 .f32) (harg6 : arg6.IsWhole)
  (arg7 : Memref sig .tc .vmem S1024x640 .i32) (harg7 : arg7.IsWhole)
  (x0 : Vec F S1024x128 .f32) (x1 : Vec F S2048x128 .f32) (xs0 : Vec F S1024x640 .f32) (xs1 : Vec F S1024x640 .i32)

theorem pieces_C_2 (hc0 : ¬cond0_0 i) (hc1 : ¬cond0_1 i) (hc2 : cond0_2 i) :
    (kernelRun0_C c i arg2 harg2 arg3 harg3 arg4 harg4 arg5 harg5 arg6 harg6 arg7 harg7 hc0 hc1 hc2 x0 x1 xs0 xs1).1
      = [⟨Rect.unit (s := S1024x10) ![0, 0] S1024x10.size inb_S1024x10_S1024x10_0_0,
          tenT (colsOf (F := F) (lastI arg7 (lastPcs i arg2 harg2 arg3 harg3 arg6 harg6 arg7 harg7 x0 x1 xs0 xs1).2))
            (lastT arg6 (lastPcs i arg2 harg2 arg3 harg3 arg6 harg6 arg7 harg7 x0 x1 xs0 xs1).1)⟩] := by
  sl_kernel_rfl

theorem pieces_C_3 (hc0 : ¬cond0_0 i) (hc1 : ¬cond0_1 i) (hc2 : cond0_2 i) :
    (kernelRun0_C c i arg2 harg2 arg3 harg3 arg4 harg4 arg5 harg5 arg6 harg6 arg7 harg7 hc0 hc1 hc2 x0 x1 xs0 xs1).2.1
      = [⟨Rect.unit (s := S1024x10) ![0, 0] S1024x10.size inb_S1024x10_S1024x10_0_0,
          tenI (colsOf (F := F) (lastI arg7 (lastPcs i arg2 harg2 arg3 harg3 arg6 harg6 arg7 harg7 x0 x1 xs0 xs1).2))
            (lastT arg6 (lastPcs i arg2 harg2 arg3 harg3 arg6 harg6 arg7 harg7 x0 x1 xs0 xs1).1)⟩] := by
  sl_kernel_rfl

end Cert.TopLanes
end
-- ==== Proof.Stack.lean ====
module

public import proofs.«01_k».proof.Proof.Chain
public import Idealize.ShloMosaic.Lib.Pipeline.FrameBody
public import Idealize.ShloMosaic.Lib.WholeRead
public import Idealize.ShloMosaic.Lib.ValueIdxCore

@[expose] public section
noncomputable section

/-!
# Reading the scratch arrays

A stack of one store a row group, read at a row, is the store of that row's group; the store's columns are the five
slots side by side.
-/

namespace Cert.TopLanes

open Idealize.ShloMosaic Idealize.ShloMosaic.ValueIdx Cert.KernelIdeal Cert.KernelIdeal.Gen

/-- Row `r` of group `g`. -/
abbrev rowOf (g : ℕ) (hg : g < NG) (r : Fin 32) : Fin 1024 := ⟨32 * g + r.val, by have h : g < 32 := hg; have := r.isLt; omega⟩

theorem grp_emb (g : ℕ) (hg : g < NG) (r : Fin 32) (k : Fin 640) :
    (grp g hg).emb (ix2 r k) = ix2 (rowOf g hg r) k := by
  funext a
  apply Fin.ext
  match a with
  | ⟨0, _⟩ => show 32 * g + 1 * r.val = 32 * g + r.val; omega
  | ⟨1, _⟩ => show 0 + 1 * k.val = k.val; omega

section stack

variable {Val : EltTy → Type} [∀ e, Nonempty (Val e)] {e : EltTy}
  (P : (n : ℕ) → n ≤ NG → List (View.Piece Val S1024x640 e)) (w : (g : ℕ) → g < NG → S32x640.Idx → Val e)
  (hP : ∀ n (h : n < NG), P (n + 1) h = ⟨grp n h, w n h⟩ :: P n (Nat.le_of_lt h))

include hP in
/-- Below the stores, what was there before them. -/
theorem stack_above (n : ℕ) (hn : n ≤ NG) (y : S1024x640.Idx) (hy : 32 * n ≤ (y 0).val) :
    View.canon (P n hn) y = View.canon (P 0 (Nat.zero_le _)) y := by
  induction n with
  | zero => rfl
  | succ n ih =>
    rw [hP n hn, View.canon_cons_of_not_mem, ih (Nat.le_of_lt hn) (by omega)]
    intro hm
    have h := ((Rect.mem_set_unit (inb := inb_group n hn)).mp hm 0).2
    have h' : (y 0).val < 32 * n + 32 := h
    omega

include hP in
/-- In a stored group, its store. -/
theorem stack_at (n : ℕ) (hn : n ≤ NG) (g : ℕ) (hg : g < NG) (hgn : g < n) (r : Fin 32) (k : Fin 640) :
    View.canon (P n hn) (ix2 (rowOf g hg r) k) = w g hg (ix2 r k) := by
  induction n with
  | zero => omega
  | succ n ih =>
    rw [hP n hn]
    by_cases e : g = n
    · subst e
      rw [← grp_emb g hg r k]
      exact View.canon_cons_emb (grp g hg) (w g hg) _ (ix2 r k)
    · rw [View.canon_cons_of_not_mem, ih (Nat.le_of_lt hn) (by omega)]
      intro hm
      have h := ((Rect.mem_set_unit (inb := inb_group n hn)).mp hm 0).1
      have h' : 32 * n ≤ 32 * g + r.val := h
      have := r.isLt
      omega

end stack

variable {F : FTy → Type} [FloatOps F]

/-- Column of slot `k` and lane `l`. -/
abbrev colOf (k : Fin 5) (l : Fin 128) : Fin 640 := ⟨128 * k.val + l.val, by have := k.isLt; have := l.isLt; omega⟩

theorem concat_at {α : Type} (f : Fin 5 → S32x128.Idx → α) (r : Fin 32) (k : Fin 5) (l : Fin 128) :
    concatenate S32x640 1 (List.ofFn fun n : Fin 5 => ⟨S32x128, f n⟩) (slots_fit f) (ix2 r (colOf k l)) = f k (ix2 r l) := by
  have hl := l.isLt
  refine concatenate_ofFn_apply (1 : Fin S32x640.rank) f (slots_fit f) rfl 128 rfl (ix2 r (colOf k l)) k ?_ (ix2 r l) ?_ ?_
  · show (128 * k.val + l.val) / 128 = k.val
    omega
  · show l.val = (128 * k.val + l.val) % 128
    omega
  · intro b hb
    match b with
    | ⟨0, _⟩ => rfl
    | ⟨1, _⟩ => exact absurd rfl hb

theorem rowT_at (s : VSt F) (r : Fin 32) (k : Fin 5) (l : Fin 128) : s.rowT (ix2 r (colOf k l)) = s.slotT k (ix2 r l) := by
  unfold VSt.rowT
  rw [shapeCast_self]
  exact concat_at s.slotT r k l

theorem rowI_at (s : VSt F) (r : Fin 32) (k : Fin 5) (l : Fin 128) : s.rowI (ix2 r (colOf k l)) = s.slotI k (ix2 r l) := by
  unfold VSt.rowI
  rw [shapeCast_self]
  exact concat_at s.slotI r k l

/-- A slice of 128 columns. -/
theorem slot_slice {α : Type} (x : S32x640.Idx → α) (k : Fin 5) (off : Fin 2 → ℕ) (h0 : off 0 = 0) (h1 : off 1 = 128 * k.val)
    (h : S32x640.Slices off S32x128) (r : Fin 32) (l : Fin 128) :
    extractStridedSlice S32x128 off x h (ix2 r l) = x (ix2 r (colOf k l)) := by
  refine extractStridedSlice_apply off x h (ix2 r l) (ix2 r (colOf k l)) fun a => ?_
  match a with
  | ⟨0, _⟩ => show r.val = off 0 + r.val; omega
  | ⟨1, _⟩ => show 128 * k.val + l.val = off 1 + l.val; omega

end Cert.TopLanes
end
-- ==== Proof.Rank.lean ====
/-
  Ranks. The entries of a finite family of extended reals are ordered by "greater first, equal ones in index order";
  the rank of an entry is how many entries come before it. A stable descending sort puts at place `k` the entry of rank `k`.
-/
module

public import Idealize.ShloMosaic.PureOps
public import Idealize.ShloMosaic.Lib.SortFacts
public import Mathlib.Data.EReal.Basic
public import Mathlib.Data.Fintype.Card
public import Mathlib.Data.Finset.Card

@[expose] public section

noncomputable section

namespace Cert.TopLanes

open Idealize.ShloMosaic

variable {ι : Type} [LinearOrder ι] {α : Type} [LinearOrder α]

/-- Entry `i` comes before entry `j`: it is greater, or equal and at the lower index. -/
def Before (f : ι → α) (i j : ι) : Prop := f j < f i ∨ (f i = f j ∧ i < j)

instance (f : ι → α) (i j : ι) : Decidable (Before f i j) := by unfold Before; infer_instance

theorem Before.trans {f : ι → α} {i j k : ι} (h : Before f i j) (h' : Before f j k) : Before f i k := by
  rcases h with h | ⟨h, hl⟩ <;> rcases h' with h' | ⟨h', hl'⟩
  · exact Or.inl (h'.trans h)
  · exact Or.inl (h' ▸ h)
  · exact Or.inl (h ▸ h')
  · exact Or.inr ⟨h.trans h', hl.trans hl'⟩

theorem Before.irrefl (f : ι → α) (i : ι) : ¬ Before f i i := by
  rintro (h | ⟨-, h⟩) <;> exact lt_irrefl _ h

theorem Before.le {f : ι → α} {i j : ι} (h : Before f i j) : f j ≤ f i := by
  rcases h with h | ⟨h, -⟩
  · exact h.le
  · exact h.ge

theorem Before.total (f : ι → α) {i j : ι} (h : i ≠ j) : Before f i j ∨ Before f j i := by
  rcases lt_trichotomy (f i) (f j) with hf | hf | hf
  · exact Or.inr (Or.inl hf)
  · rcases lt_or_gt_of_ne h with hl | hl
    · exact Or.inl (Or.inr ⟨hf, hl⟩)
    · exact Or.inr (Or.inr ⟨hf.symm, hl⟩)
  · exact Or.inl (Or.inl hf)

/-- How many entries of `s` come before entry `p`. -/
def rk (s : Finset ι) (f : ι → α) (p : ι) : ℕ := (s.filter fun q => Before f q p).card

/-- An entry before another has the lower rank. -/
theorem rk_lt {s : Finset ι} {f : ι → α} {p q : ι} (hp : p ∈ s) (h : Before f p q) : rk s f p < rk s f q := by
  apply Finset.card_lt_card
  rw [Finset.ssubset_iff_of_subset]
  · exact ⟨p, by simp [hp, h], by simp [Before.irrefl]⟩
  · intro x hx
    rw [Finset.mem_filter] at hx ⊢
    exact ⟨hx.1, hx.2.trans h⟩

/-- Two entries of one rank are one entry. -/
theorem rk_inj {s : Finset ι} {f : ι → α} {p q : ι} (hp : p ∈ s) (hq : q ∈ s) (h : rk s f p = rk s f q) : p = q := by
  by_contra hne
  rcases Before.total f hne with hb | hb
  · exact absurd h (rk_lt hp hb).ne
  · exact absurd h (rk_lt hq hb).ne'

/-- The lower rank comes before. -/
theorem before_of_rk_lt {s : Finset ι} {f : ι → α} {p q : ι} (hq : q ∈ s) (h : rk s f p < rk s f q) : Before f p q := by
  by_contra hb
  by_cases hne : p = q
  · subst hne; exact lt_irrefl _ h
  · have := rk_lt hq ((Before.total f hne).resolve_left hb)
    omega

section sort

variable {n : ℕ}

/-- The comparison a stable descending sort makes. -/
def gtPos (f : Fin n → α) (a b : Fin n) : Bool := decide (f b < f a)

theorem pairwise_insert (f : Fin n → α) (a : Fin n) (l : List (Fin n)) (ha : ∀ b ∈ l, a < b)
    (hl : l.Pairwise (Before f)) : (insertBefore (gtPos f) a l).Pairwise (Before f) := by
  induction l with
  | nil => exact List.pairwise_singleton _ _
  | cons b l ih =>
    have hl' := List.pairwise_cons.mp hl
    unfold insertBefore
    split
    · rename_i h
      have hba : f a < f b := of_decide_eq_true h
      refine List.pairwise_cons.mpr ⟨fun c hc => ?_, ih (fun c hc => ha c (List.mem_cons_of_mem _ hc)) hl'.2⟩
      rcases List.mem_cons.mp ((perm_insertBefore _ a l).mem_iff.mp hc) with rfl | hc'
      · exact Or.inl hba
      · exact hl'.1 c hc'
    · rename_i h
      have hba : f b ≤ f a := not_lt.mp fun h' => h (decide_eq_true h')
      have hab : Before f a b := by
        rcases hba.lt_or_eq with h' | h'
        · exact Or.inl h'
        · exact Or.inr ⟨h'.symm, ha b List.mem_cons_self⟩
      refine List.pairwise_cons.mpr ⟨fun c hc => ?_, hl⟩
      rcases List.mem_cons.mp hc with rfl | hc'
      · exact hab
      · exact hab.trans (hl'.1 c hc')

theorem pairwise_sort (f : Fin n → α) (l : List (Fin n)) (hl : l.Pairwise (· < ·)) :
    (stableSort (gtPos f) l).Pairwise (Before f) := by
  induction l with
  | nil => exact List.Pairwise.nil
  | cons a l ih =>
    have hl' := List.pairwise_cons.mp hl
    unfold stableSort
    exact pairwise_insert f a _ (fun b hb => hl'.1 b ((perm_stableSort _ l).mem_iff.mp hb)) (ih hl'.2)

/-- A stable descending sort puts the entry of rank `k` at place `k`. -/
theorem rk_sortedFrom (f : Fin n → α) (k : Fin n) : rk Finset.univ f (sortedFrom (gtPos f) k) = k.val := by
  have hp : (sortPositions n (gtPos f)).Pairwise (Before f) := pairwise_sort f _ (List.pairwise_lt_finRange n)
  have hlt : ∀ i j : Fin n, i < j → Before f (sortedFrom (gtPos f) i) (sortedFrom (gtPos f) j) := by
    intro i j hij
    have := List.pairwise_iff_get.mp hp (i.cast (length_sortPositions n _).symm) (j.cast (length_sortPositions n _).symm) (by simpa using hij)
    exact this
  have hiff : ∀ i j : Fin n, Before f (sortedFrom (gtPos f) i) (sortedFrom (gtPos f) j) ↔ i < j := by
    intro i j
    refine ⟨fun h => ?_, hlt i j⟩
    by_contra hn
    rcases (not_lt.mp hn).lt_or_eq with h' | h'
    · exact Before.irrefl f _ (h.trans (hlt _ _ h'))
    · subst h'; exact Before.irrefl f _ h
  have hset : (Finset.univ.filter fun q => Before f q (sortedFrom (gtPos f) k))
      = (Finset.univ.filter fun i : Fin n => i < k).image (sortedFrom (gtPos f)) := by
    ext q
    simp only [Finset.mem_filter, Finset.mem_univ, true_and, Finset.mem_image]
    constructor
    · intro h
      obtain ⟨i, rfl⟩ := sortedFrom_surjective (gtPos f) q
      exact ⟨i, (hiff _ _).mp h, rfl⟩
    · rintro ⟨i, hi, rfl⟩
      exact (hiff _ _).mpr hi
  unfold rk
  rw [hset, Finset.card_image_of_injective _ (sortedFrom_injective _)]
  have : (Finset.univ.filter fun i : Fin n => i < k) = Finset.Iio k := by ext; simp
  rw [this, Fin.card_Iio]

end sort

end Cert.TopLanes

end
-- ==== Proof.Lane.lean ====
/-
  One lane of the running selection. A lane sees one score per chunk and keeps the five greatest so far, with the chunks of the
  first four. `Cell.step` is one chunk's update; `Kept` says what the cell holds after `K` chunks: the five values are the five
  greatest (none missing ones but the floor), and each of the first four chunks is the one whose score has that rank.
-/
module

public import proofs.«01_k».proof.Proof.Rank

@[expose] public section

noncomputable section

namespace Cert.TopLanes

/-- What a lane keeps: five scores and four chunk numbers. -/
structure Cell where
  t1 : EReal
  t2 : EReal
  t3 : EReal
  t4 : EReal
  t5 : EReal
  i1 : BitVec 32
  i2 : BitVec 32
  i3 : BitVec 32
  i4 : BitVec 32

/-- One chunk's update, in the kernel's own order of minima, maxima and choices. -/
def Cell.step (x : EReal) (g : BitVec 32) (s : Cell) : Cell where
  t1 := max s.t1 x
  t2 := max s.t2 (min s.t1 x)
  t3 := max s.t3 (min s.t2 (min s.t1 x))
  t4 := max s.t4 (min s.t3 (min s.t2 (min s.t1 x)))
  t5 := max s.t5 (min s.t4 (min s.t3 (min s.t2 (min s.t1 x))))
  i1 := if s.t1 < x then g else s.i1
  i2 := if s.t2 < x then (if s.t1 < x then s.i1 else g) else s.i2
  i3 := if s.t3 < x then (if s.t2 < x then s.i2 else g) else s.i3
  i4 := if s.t4 < x then (if s.t3 < x then s.i3 else g) else s.i4

/-- How many of the first `K` scores are at least `v`. -/
def cge (a : ℕ → EReal) (K : ℕ) (v : EReal) : ℕ := ((Finset.range K).filter fun c => v ≤ a c).card

theorem cge_zero (a : ℕ → EReal) (v : EReal) : cge a 0 v = 0 := by simp [cge]

theorem cge_succ (a : ℕ → EReal) (K : ℕ) (v : EReal) : cge a (K + 1) v = cge a K v + if v ≤ a K then 1 else 0 := by
  unfold cge
  rw [Finset.range_add_one, Finset.filter_insert]
  split
  · rw [Finset.card_insert_of_notMem (by simp)]
  · rfl

/-- Value `t` is the `k`-th greatest of the first `K` scores (the floor when there are fewer). -/
def Nth (a : ℕ → EReal) (K k : ℕ) (t : EReal) : Prop := ∀ v, ⊥ < v → (v ≤ t ↔ k ≤ cge a K v)

/-- Above the floor, word `i` is the chunk whose score `t` has rank `r` among the first `K`. -/
def At (a : ℕ → EReal) (K r : ℕ) (t : EReal) (i : BitVec 32) : Prop :=
  ⊥ < t → ∃ n, n < K ∧ i = BitVec.ofNat 32 n ∧ a n = t ∧ rk (Finset.range K) a n = r

theorem eq_of_le_iff {s t : EReal} (h : ∀ v, ⊥ < v → (v ≤ s ↔ v ≤ t)) : s = t := by
  apply le_antisymm
  · rcases eq_or_lt_of_le (bot_le (a := s)) with h' | h'
    · rw [← h']; exact bot_le
    · exact (h s h').mp le_rfl
  · rcases eq_or_lt_of_le (bot_le (a := t)) with h' | h'
    · rw [← h']; exact bot_le
    · exact (h t h').mpr le_rfl

/-- What a chunk hands on to the next slot: the lesser of the slot's value and what was handed to it. -/
def Handed (a : ℕ → EReal) (K k : ℕ) (x m : EReal) : Prop := ∀ v, ⊥ < v → (v ≤ m ↔ (k ≤ cge a K v ∧ v ≤ x))

theorem handed_zero (a : ℕ → EReal) (K : ℕ) (x : EReal) : Handed a K 0 x x := fun v _ => by simp

theorem Handed.next {a : ℕ → EReal} {K k : ℕ} {x m t : EReal} (h : Handed a K k x m) (ht : Nth a K (k + 1) t) :
    Handed a K (k + 1) x (min t m) := fun v hv => by
  rw [le_min_iff, h v hv, ht v hv]
  constructor
  · rintro ⟨h1, -, h3⟩; exact ⟨h1, h3⟩
  · rintro ⟨h1, h2⟩; exact ⟨h1, by omega, h2⟩

theorem Nth.next {a : ℕ → EReal} {K k : ℕ} {m t : EReal} (ht : Nth a K (k + 1) t) (h : Handed a K k (a K) m) :
    Nth a (K + 1) (k + 1) (max t m) := fun v hv => by
  rw [le_max_iff, h v hv, ht v hv, cge_succ]
  split
  · rename_i hx
    constructor
    · rintro (h1 | ⟨h1, -⟩) <;> omega
    · intro h1; exact Or.inr ⟨by omega, hx⟩
  · rename_i hx
    constructor
    · rintro (h1 | ⟨-, h2⟩)
      · omega
      · exact absurd h2 hx
    · intro h1; exact Or.inl (by omega)

/-- An earlier entry's rank grows by one when the new score is greater, and is kept otherwise. -/
theorem rk_succ {a : ℕ → EReal} {K n : ℕ} (hn : n < K) :
    rk (Finset.range (K + 1)) a n = rk (Finset.range K) a n + if a n < a K then 1 else 0 := by
  unfold rk
  rw [Finset.range_add_one, Finset.filter_insert]
  have hb : Before a K n ↔ a n < a K := by
    unfold Before
    constructor
    · rintro (h | ⟨-, h⟩)
      · exact h
      · omega
    · exact Or.inl
  by_cases h : a n < a K
  · rw [if_pos (hb.mpr h), if_pos h, Finset.card_insert_of_notMem (by simp)]
  · rw [if_neg (fun h' => h (hb.mp h')), if_neg h, Nat.add_zero]

/-- The new entry's rank is how many of the earlier scores are at least its own. -/
theorem rk_new (a : ℕ → EReal) (K : ℕ) : rk (Finset.range (K + 1)) a K = cge a K (a K) := by
  unfold rk cge
  rw [Finset.range_add_one, Finset.filter_insert, if_neg (Before.irrefl a K)]
  congr 1
  apply Finset.filter_congr
  intro c hc
  have hc' : c < K := Finset.mem_range.mp hc
  unfold Before
  constructor
  · rintro (h | ⟨h, -⟩)
    · exact h.le
    · exact h.ge
  · intro h
    rcases h.lt_or_eq with h' | h'
    · exact Or.inl h'
    · exact Or.inr ⟨h'.symm, hc'⟩

/-- The chunk word of slot `k + 1` (rank `k`): kept, moved from the slot before, or new. -/
theorem At.next {a : ℕ → EReal} {K k : ℕ} {t tp m : EReal} {i ip : BitVec 32} (ht : Nth a K (k + 1) t)
    (htp : ∀ v, ⊥ < v → (v ≤ tp ↔ k ≤ cge a K v)) (hm : Handed a K k (a K) m) (hi : At a K k t i)
    (hip : tp < a K → ∃ r, k = r + 1 ∧ At a K r tp ip) :
    At a (K + 1) k (max t m) (if t < a K then (if tp < a K then ip else BitVec.ofNat 32 K) else i) := by
  have hmin : m = min tp (a K) := eq_of_le_iff fun v hv => by rw [hm v hv, le_min_iff, htp v hv]
  have htt : t ≤ tp := by
    rcases eq_or_lt_of_le (bot_le (a := t)) with h' | h'
    · rw [← h']; exact bot_le
    · have := (ht t h').mp le_rfl
      exact (htp t h').mpr (by omega)
  subst hmin
  by_cases hx : t < a K
  · rw [if_pos hx]
    by_cases hxp : tp < a K
    · rw [if_pos hxp, min_eq_left hxp.le, max_eq_right htt]
      intro hb
      obtain ⟨r, rfl, hr⟩ := hip hxp
      obtain ⟨n, hn, hin, han, hrk⟩ := hr hb
      exact ⟨n, by omega, hin, han, by rw [rk_succ hn, hrk, if_pos (han ▸ hxp)]⟩
    · have hxp' : a K ≤ tp := not_lt.mp hxp
      rw [if_neg hxp, min_eq_right hxp', max_eq_right hx.le]
      intro hb
      refine ⟨K, by omega, rfl, rfl, ?_⟩
      rw [rk_new]
      have h1 := (htp (a K) hb).mp hxp'
      have h2 : ¬ k + 1 ≤ cge a K (a K) := fun h => absurd ((ht (a K) hb).mpr h) (not_le.mpr hx)
      omega
  · have hx' : a K ≤ t := not_lt.mp hx
    rw [if_neg hx, max_eq_left ((min_le_right _ _).trans hx')]
    intro hb
    obtain ⟨n, hn, hin, han, hrk⟩ := hi hb
    exact ⟨n, by omega, hin, han, by rw [rk_succ hn, hrk, if_neg (by rw [han]; exact hx), Nat.add_zero]⟩

/-- What a lane's cell holds after `K` chunks. -/
structure Kept (a : ℕ → EReal) (K : ℕ) (s : Cell) : Prop where
  n1 : Nth a K 1 s.t1
  n2 : Nth a K 2 s.t2
  n3 : Nth a K 3 s.t3
  n4 : Nth a K 4 s.t4
  n5 : Nth a K 5 s.t5
  a1 : At a K 0 s.t1 s.i1
  a2 : At a K 1 s.t2 s.i2
  a3 : At a K 2 s.t3 s.i3
  a4 : At a K 3 s.t4 s.i4

/-- The empty lane: five floors. -/
theorem kept_zero (a : ℕ → EReal) (i1 i2 i3 i4 : BitVec 32) : Kept a 0 ⟨⊥, ⊥, ⊥, ⊥, ⊥, i1, i2, i3, i4⟩ := by
  have hn : ∀ k, Nth a 0 (k + 1) ⊥ := fun k v hv => by
    rw [cge_zero]
    exact ⟨fun h => absurd hv (not_lt.mpr h), fun h => by omega⟩
  exact ⟨hn 0, hn 1, hn 2, hn 3, hn 4, fun h => absurd h (lt_irrefl _), fun h => absurd h (lt_irrefl _),
    fun h => absurd h (lt_irrefl _), fun h => absurd h (lt_irrefl _)⟩

/-- One more chunk. -/
theorem Kept.step {a : ℕ → EReal} {K : ℕ} {s : Cell} (h : Kept a K s) :
    Kept a (K + 1) (s.step (a K) (BitVec.ofNat 32 K)) := by
  have m0 := handed_zero a K (a K)
  have m1 := m0.next h.n1
  have m2 := m1.next h.n2
  have m3 := m2.next h.n3
  have m4 := m3.next h.n4
  refine ⟨h.n1.next m0, h.n2.next m1, h.n3.next m2, h.n4.next m3, h.n5.next m4, ?_, ?_, ?_, ?_⟩
  · have := At.next (tp := ⊤) (ip := 0) h.n1 (fun v _ => by simp) m0 h.a1 (fun hx => absurd hx not_top_lt)
    rw [if_neg not_top_lt] at this
    exact this
  · exact At.next h.n2 h.n1 m1 h.a2 fun _ => ⟨0, rfl, h.a1⟩
  · exact At.next h.n3 h.n2 m2 h.a3 fun _ => ⟨1, rfl, h.a2⟩
  · exact At.next h.n4 h.n3 m3 h.a4 fun _ => ⟨2, rfl, h.a3⟩

end Cert.TopLanes

end
-- ==== Proof.Cells.lean ====
module

public import proofs.«01_k».proof.Proof.Stack
public import proofs.«01_k».proof.Proof.Lane
public import Idealize.ShloMosaic.Lib.ValueIdx

@[expose] public section
noncomputable section

/-!
# One lane of the kernel's lists

At the ideal instance the vector lists of a row group, read at one row and one lane, are the five scores and four chunk
numbers of `Lane.lean`, and a vector step is that file's step.
-/

namespace Cert.TopLanes

open Idealize.ShloMosaic Idealize.ShloMosaic.ValueIdx Cert.KernelIdeal Cert.KernelIdeal.Gen

/-- The lists at one place. -/
def VSt.cell (s : VSt Ideal) (j : S32x128.Idx) : Cell :=
  ⟨s.t1 j, s.t2 j, s.t3 j, s.t4 j, s.t5 j, s.i1 j, s.i2 j, s.i3 j, s.i4 j⟩

theorem select_gt {α : Type} (x y : EReal) (a b : α) :
    Scalar.select (Ideal.cmp .ogt x y) a b = if y < x then a else b := by
  unfold Scalar.select Ideal.cmp
  by_cases h : y < x <;> simp [h]

theorem cell_step (x : FVec Ideal S32x128 .f32) (g : BitVec 32) (s : VSt Ideal) (j : S32x128.Idx) :
    (s.step x g).cell j = (s.cell j).step (x j) g := by
  have e : ∀ (t : FVec Ideal S32x128 .f32) (a b : IVec S32x128 32),
      select (cmpf .ogt x t) a b j = if (t j : EReal) < x j then a j else b j := fun t a b => select_gt (x j) (t j) (a j) (b j)
  unfold VSt.cell VSt.step Cell.step
  simp only [e]
  rfl

/-- Sixteen chunks of a lane. -/
theorem run_kept {a : ℕ → EReal} {X : Chunks Ideal} {jj : ℕ} {g : ℕ} {hg : g < NG} {s : VSt Ideal} {j : S32x128.Idx}
    (hjj : jj < 49) (hX : ∀ n (hn : n < 16), X g n hg hn j = a (16 * jj + n)) (h : Kept a (16 * jj) (s.cell j)) (n : ℕ) (hn : n ≤ 16) :
    Kept a (16 * jj + n) ((run X (BitVec.ofNat 32 jj) g hg s n hn).cell j) := by
  induction n with
  | zero => exact h
  | succ n ih =>
    have e : Scalar.addi (Scalar.muli (BitVec.ofNat 32 jj) 16#32) (BitVec.ofNat 32 n) = BitVec.ofNat 32 (16 * jj + n) := by
      apply BitVec.eq_of_toNat_eq
      show ((BitVec.ofNat 32 jj * 16#32) + BitVec.ofNat 32 n).toNat = _
      simp only [BitVec.toNat_add, BitVec.toNat_mul, BitVec.toNat_ofNat]
      omega
    have h1 := (ih (Nat.le_of_succ_le hn)).step
    unfold run
    rw [cell_step, hX n hn, e]
    exact h1

/-- One row and one lane of a pair of scratch arrays. -/
def cellAt (T : S1024x640.Idx → EReal) (I : S1024x640.Idx → BitVec 32) (q : Fin 1024) (l : Fin 128) : Cell :=
  ⟨T (ix2 q (colOf 0 l)), T (ix2 q (colOf 1 l)), T (ix2 q (colOf 2 l)), T (ix2 q (colOf 3 l)), T (ix2 q (colOf 4 l)),
    I (ix2 q (colOf 0 l)), I (ix2 q (colOf 1 l)), I (ix2 q (colOf 2 l)), I (ix2 q (colOf 3 l))⟩

/-- Loaded lists at one place. -/
theorem load_cell (tv : Vec Ideal S32x640 .f32) (ti : Vec Ideal S32x640 .i32) (T : S1024x640.Idx → EReal) (I : S1024x640.Idx → BitVec 32)
    (q : Fin 1024) (r : Fin 32) (l : Fin 128) (hT : ∀ k, tv (ix2 r k) = T (ix2 q k)) (hI : ∀ k, ti (ix2 r k) = I (ix2 q k)) :
    (VSt.load tv ti).cell (ix2 r l) = cellAt T I q l := by
  unfold VSt.cell VSt.load cellAt
  simp only [← hT, ← hI]
  congr 1
  · exact slot_slice tv 0 _ rfl rfl _ r l
  · exact slot_slice tv 1 _ rfl rfl _ r l
  · exact slot_slice tv 2 _ rfl rfl _ r l
  · exact slot_slice tv 3 _ rfl rfl _ r l
  · exact slot_slice tv 4 _ rfl rfl _ r l
  · exact slot_slice ti 0 _ rfl rfl _ r l
  · exact slot_slice ti 1 _ rfl rfl _ r l
  · exact slot_slice ti 2 _ rfl rfl _ r l
  · exact slot_slice ti 3 _ rfl rfl _ r l

/-- The scratch arrays hold, at every row and lane, the lists of the first `K` chunks; the fifth slot of the chunk
    numbers repeats the fourth. -/
def Holds (a : Fin 1024 → Fin 128 → ℕ → EReal) (K : ℕ) (T : S1024x640.Idx → EReal) (I : S1024x640.Idx → BitVec 32) : Prop :=
  ∀ q l, Kept (a q l) K (cellAt T I q l)

section fold

variable {a : Fin 1024 → Fin 128 → ℕ → EReal} {X : Chunks Ideal} {jj : ℕ}
  {ldT : List (View.Piece (Elt Ideal) S1024x640 .f32) → (g : ℕ) → g < NG → Vec Ideal S32x640 .f32}
  {ldI : List (View.Piece (Elt Ideal) S1024x640 .i32) → (g : ℕ) → g < NG → Vec Ideal S32x640 .i32}
  {L : List (View.Piece (Elt Ideal) S1024x640 .f32)} {M : List (View.Piece (Elt Ideal) S1024x640 .i32)}
  {T : S1024x640.Idx → EReal} {I : S1024x640.Idx → BitVec 32}

/-- What one key block's stores leave, when every group loads what the arrays `T`, `I` hold in its rows. -/
theorem pcs_holds (hjj : jj < 49)
    (hX : ∀ g (hg : g < NG) n (hn : n < 16) (r : Fin 32) (l : Fin 128), X g n hg hn (ix2 r l) = a (rowOf g hg r) l (16 * jj + n))
    (hT : ∀ n (hn : n < NG) r k, ldT (pcs X (BitVec.ofNat 32 jj) ldT ldI L M n (Nat.le_of_lt hn)).1 n hn (ix2 r k) = T (ix2 (rowOf n hn r) k))
    (hI : ∀ n (hn : n < NG) r k, ldI (pcs X (BitVec.ofNat 32 jj) ldT ldI L M n (Nat.le_of_lt hn)).2 n hn (ix2 r k) = I (ix2 (rowOf n hn r) k))
    (h : Holds a (16 * jj) T I) :
    Holds a (16 * jj + 16) (View.canon (pcs X (BitVec.ofNat 32 jj) ldT ldI L M NG le_rfl).1)
      (View.canon (pcs X (BitVec.ofNat 32 jj) ldT ldI L M NG le_rfl).2) := by
  intro q l
  have hq := q.isLt
  have hg : q.val / 32 < NG := by show q.val / 32 < 32; omega
  have eq : q = rowOf (q.val / 32) hg ⟨q.val % 32, by omega⟩ := Fin.ext (by show q.val = 32 * (q.val / 32) + q.val % 32; omega)
  generalize q.val / 32 = g at hg eq
  generalize (⟨q.val % 32, _⟩ : Fin 32) = r at eq
  subst eq
  have c : ∀ k, View.canon (pcs X (BitVec.ofNat 32 jj) ldT ldI L M NG le_rfl).1 (ix2 (rowOf g hg r) k) = _ := fun k =>
    stack_at (fun n hn => (pcs X (BitVec.ofNat 32 jj) ldT ldI L M n hn).1) _ (fun n hn => rfl) NG le_rfl g hg hg r k
  have d : ∀ k, View.canon (pcs X (BitVec.ofNat 32 jj) ldT ldI L M NG le_rfl).2 (ix2 (rowOf g hg r) k) = _ := fun k =>
    stack_at (fun n hn => (pcs X (BitVec.ofNat 32 jj) ldT ldI L M n hn).2) _ (fun n hn => rfl) NG le_rfl g hg hg r k
  have h2 := run_kept (X := X) (g := g) (hg := hg) (j := ix2 r l) hjj (fun n hn => hX g hg n hn r l)
    (by rw [load_cell _ _ T I (rowOf g hg r) r l (hT g hg r) (hI g hg r)]; exact h (rowOf g hg r) l) 16 le_rfl
  unfold cellAt
  simp only [c, d, rowT_at, rowI_at]
  exact h2

end fold

end Cert.TopLanes
end
-- ==== Proof.Scores.lean ====
module

public import proofs.«01_k».proof.Proof.PiecesC
public import proofs.«01_k».proof.Proof.Cells
public import Idealize.ShloMosaic.Lib.MatmulPlain
public import Idealize.ShloMosaic.Lib.KernelVsHost
public import Idealize.ShloMosaic.Lib.StableHlo.Run

@[expose] public section
noncomputable section

/-!
# A key block's scores

Score of a query row and a key: the sum of the products of their coordinates. The kernel's block product, read at a row
and a column of a key block, is the score of the key the column stands for.
-/

namespace Cert.TopLanes

open Idealize.ShloMosaic Idealize.ShloMosaic.ValueIdx Idealize.ShloMosaic.TcCoe Cert.KernelIdeal Cert.KernelIdeal.Gen
open scoped BigOperators

/-- The score of query row `q` and key `n`. -/
def score (Q : S1024x128.Idx → EReal) (K : S100000x128.Idx → EReal) (q : Fin 1024) (n : Fin 100000) : EReal :=
  ∑ d : Fin 128, Q (ix2 q d) * K (ix2 n d)

/-- The scores of a row, −∞ from the end of the keys on. -/
def scoreN (Q : S1024x128.Idx → EReal) (K : S100000x128.Idx → EReal) (q : Fin 1024) (n : ℕ) : EReal :=
  if h : n < 100000 then score Q K q ⟨n, h⟩ else ⊥

/-- The block product at one place. -/
theorem product_at (v0 : Vec Ideal S1024x128 .f32) (v1 : Vec Ideal S2048x128 .f32) (q : Fin 1024) (k : Fin 2048) :
    (k0_pay1 v0 v1 (ix2 q k) : EReal) = ∑ d : Fin 128, (v0 (ix2 q d) : EReal) * v1 (ix2 k d) := by
  unfold k0_pay1
  rw [shapeCast_self]
  refine (Ideal.matmul_transposedRhs_apply (M := 1024) (K := 128) (N := 2048) none v0 v1 (constant S1024x2048 .f32 0x00000000#32) q k).trans ?_
  have e : (constant (F := Ideal) S1024x2048 .f32 0x00000000#32 (ix2 q k) : EReal) = 0 := by
    show FloatOps.ofBits (F := Ideal) .f32 0x00000000#32 = (0 : EReal)
    simp [FloatOps.ofBits, Ideal.ofBits, Ideal.ieee]
  rw [e]
  exact zero_add _

/-- The same of two loaded blocks. -/
theorem scoresOf_at (arg2 : Memref sig .tc .vmem S1024x128 .f32) (harg2 : arg2.IsWhole) (arg3 : Memref sig .tc .vmem S2048x128 .f32)
    (harg3 : arg3.IsWhole) (x0 : Vec Ideal S1024x128 .f32) (x1 : Vec Ideal S2048x128 .f32) (q : Fin 1024) (k : Fin 2048) :
    (scoresOf arg2 harg2 arg3 harg3 x0 x1 (ix2 q k) : EReal) = ∑ d : Fin 128, (x0 (ix2 q d) : EReal) * x1 (ix2 k d) := by
  refine (product_at _ _ q k).trans (Finset.sum_congr rfl fun d _ => ?_)
  rw [Memref.IsWhole.readAt_unread, Memref.IsWhole.readAt_unread]
  congr 2
  · funext a
    apply Fin.ext
    match a with
    | ⟨0, _⟩ => show 0 + 1 * q.val = q.val; omega
    | ⟨1, _⟩ => show 0 + 1 * d.val = d.val; omega
  · funext a
    apply Fin.ext
    match a with
    | ⟨0, _⟩ => show 0 + 1 * k.val = k.val; omega
    | ⟨1, _⟩ => show 0 + 1 * d.val = d.val; omega

/-- A chunk of a block at one place. -/
theorem chunk_at {F : FTy → Type} [FloatOps F] (v3 : FVec F S1024x2048 .f32) (g n : ℕ) (hg : g < NG) (hn : n < 16) (r : Fin 32) (l : Fin 128) :
    chunk v3 g n hg hn (ix2 r l) = v3 (ix2 (rowOf g hg r) ⟨128 * n + l.val, by have := l.isLt; omega⟩) := by
  refine extractStridedSlice_apply _ v3 _ (ix2 r l) _ fun a => ?_
  match a with
  | ⟨0, _⟩ => rfl
  | ⟨1, _⟩ => rfl

theorem room : Scalar.subi 100000#32 (Scalar.muli (BitVec.ofNat 32 48) 2048#32) = 1696#32 := by decide

theorem room_left : ∀ n < 16, (Scalar.subi 1696#32 (BitVec.ofNat 32 (128 * n))).toInt = 1696 - (128 * n : ℕ) := by decide

/-- The last block's mask. -/
theorem mask_word (n : ℕ) (hn : n < 16) (l : Fin 128) :
    IntOp.cmpi .slt (BitVec.ofNat 32 l.val) (Scalar.subi 1696#32 (BitVec.ofNat 32 (128 * n))) = BitVec.ofBool (decide (128 * n + l.val < 1696)) := by
  have hl := l.isLt
  show BitVec.ofBool (decide _) = _
  have h2 : (BitVec.ofNat 32 l.val).toInt = (l.val : ℤ) := by
    rw [BitVec.toInt_eq_toNat_of_lt] <;> rw [BitVec.toNat_ofNat, Nat.mod_eq_of_lt] <;> omega
  rw [h2, room_left n hn]
  congr 2
  apply propext
  omega

theorem lane_number (r : Fin 32) (l : Fin 128) :
    iota .tc S32x128 32 [1] iota_S32x128_d1_w32 (ix2 r l) = BitVec.ofNat 32 l.val := by
  show BitVec.ofNat 32 (0 * 128 + l.val) = _
  rw [Nat.zero_mul, Nat.zero_add]

/-- A chunk of the last block at one place. -/
theorem chunkM_at (v3 : FVec Ideal S1024x2048 .f32) (g n : ℕ) (hg : g < NG) (hn : n < 16) (r : Fin 32) (l : Fin 128) :
    (chunkM v3 (BitVec.ofNat 32 48) g n hg hn (ix2 r l) : EReal) = if 128 * n + l.val < 1696 then chunk v3 g n hg hn (ix2 r l) else ⊥ := by
  have e : (FloatOps.ofBits (F := Ideal) .f32 0xFF800000#32 : EReal) = ⊥ := by simp [FloatOps.ofBits, Ideal.ofBits, Ideal.ieee]
  unfold chunkM
  rw [room]
  show Scalar.select (IntOp.cmpi .slt (iota .tc S32x128 32 [1] iota_S32x128_d1_w32 (ix2 r l)) (Scalar.subi 1696#32 (BitVec.ofNat 32 (128 * n))))
    (chunk v3 g n hg hn (ix2 r l)) (FloatOps.ofBits (F := Ideal) .f32 0xFF800000#32) = _
  rw [e, lane_number, mask_word n hn l]
  by_cases h : 128 * n + l.val < 1696
  · rw [decide_eq_true h, if_pos h]; rfl
  · rw [decide_eq_false h, if_neg h]; rfl

variable (m : (ℓ : Loc nD τ sig) → Buf (Elt Ideal) ℓ) (c : Dev nD)

/-- The queries. -/
abbrev queries : S1024x128.Idx → EReal := m ((c : Thread nD τ).loc main_arg0)

/-- The keys. -/
abbrev keys : S100000x128.Idx → EReal := m ((c : Thread nD τ).loc main_arg1)

theorem index_0 : ∀ t : Fin cfg0.N, win0_0.index t (0 : Fin 2) = 0 ∧ win0_0.index t (1 : Fin 2) = 0 := by decide +kernel

theorem index_1 : ∀ t : Fin cfg0.N, win0_1.index t (0 : Fin 2) = t.val ∧ win0_1.index t (1 : Fin 2) = 0 := by decide +kernel

theorem coord_1 : ∀ t : Fin cfg0.N, (grid0.coords t 1).val = t.val := by decide +kernel

theorem queries_block (t : Fin cfg0.N) (q : Fin 1024) (d : Fin 128) : (iblk m c 0 t (ix2 q d) : EReal) = queries m c (ix2 q d) := by
  refine Eq.trans ?_ (congrFun (V_main_arg0 m c) (ix2 q d))
  show V m c main_arg0 (((cfg0.win 0).blk t).view.emb (ix2 q d)) = V m c main_arg0 (ix2 q d)
  congr 1
  obtain ⟨e0, e1⟩ := index_0 t
  funext a
  apply Fin.ext
  match a with
  | ⟨0, _⟩ => show win0_0.index t (0 : Fin 2) * 1024 + 1 * q.val = q.val; omega
  | ⟨1, _⟩ => show win0_0.index t (1 : Fin 2) * 128 + 1 * d.val = d.val; omega

/-- The padded keys as the grid finds them. -/
theorem padded_keys : (V m c main_call0_v0 : S100352x128.Idx → EReal)
    = pad S100352x128 ![0, 0] ![352, 0] ![0, 0] (keys m c) (sitofp (F := Ideal) .f32 (constantI S_ 32 0#32)) pads_S100000x128_S100352x128_03520_000 h_S_ := by
  unfold V
  simp only [hostOps0, List.flatten_cons, List.flatten_nil, List.append_nil, List.cons_append, List.nil_append]
  after_results
  rfl

theorem padded_at (n : ℕ) (hn : n < 100352) (h : n < 100000) (d : Fin 128) :
    (V m c main_call0_v0 (ix2 (⟨n, hn⟩ : Fin 100352) d) : EReal) = keys m c (ix2 ⟨n, h⟩ d) := by
  rw [padded_keys]
  refine pad_apply_of_inside _ _ _ _ _ _ _ (ix2 (⟨n, hn⟩ : Fin 100352) d) (ix2 ⟨n, h⟩ d) fun a => ?_
  match a with
  | ⟨0, _⟩ => show n = 0 + n * 1; omega
  | ⟨1, _⟩ => show d.val = 0 + d.val * 1; omega

theorem keys_block (t : Fin cfg0.N) (k : Fin 2048) (h : 2048 * t.val + k.val < 100000) (d : Fin 128) :
    (iblk m c 1 t (ix2 k d) : EReal) = keys m c (ix2 ⟨2048 * t.val + k.val, h⟩ d) := by
  rw [← padded_at m c _ (by omega) h d]
  show V m c main_call0_v0 (((cfg0.win 1).blk t).view.emb (ix2 k d)) = V m c main_call0_v0 _
  congr 1
  obtain ⟨e0, e1⟩ := index_1 t
  funext a
  apply Fin.ext
  match a with
  | ⟨0, _⟩ => show win0_1.index t (0 : Fin 2) * 2048 + 1 * k.val = 2048 * t.val + k.val; omega
  | ⟨1, _⟩ => show win0_1.index t (1 : Fin 2) * 128 + 1 * d.val = d.val; omega

/-- A block score is the score of the key its column stands for. -/
theorem block_score (arg2 : Memref sig .tc .vmem S1024x128 .f32) (harg2 : arg2.IsWhole) (arg3 : Memref sig .tc .vmem S2048x128 .f32)
    (harg3 : arg3.IsWhole) (t : Fin cfg0.N) (q : Fin 1024) (k : Fin 2048) (h : 2048 * t.val + k.val < 100000) :
    (scoresOf arg2 harg2 arg3 harg3 (iblk m c 0 t) (iblk m c 1 t) (ix2 q k) : EReal)
      = scoreN (queries m c) (keys m c) q (2048 * t.val + k.val) := by
  rw [scoresOf_at, scoreN, dif_pos h]
  exact Finset.sum_congr rfl fun d _ => by rw [queries_block, keys_block m c t k h]

/-- The scores of a lane, chunk by chunk. -/
def laneScores (q : Fin 1024) (l : Fin 128) (n : ℕ) : EReal := scoreN (queries m c) (keys m c) q (128 * n + l.val)

variable (arg2 : Memref sig .tc .vmem S1024x128 .f32) (harg2 : arg2.IsWhole) (arg3 : Memref sig .tc .vmem S2048x128 .f32)
  (harg3 : arg3.IsWhole) (t : Fin cfg0.N)

theorem chunk_score (ht : t.val < 48) (g : ℕ) (hg : g < NG) (n : ℕ) (hn : n < 16) (r : Fin 32) (l : Fin 128) :
    (chunk (scoresOf arg2 harg2 arg3 harg3 (iblk m c 0 t) (iblk m c 1 t)) g n hg hn (ix2 r l) : EReal)
      = laneScores m c (rowOf g hg r) l (16 * t.val + n) := by
  have hl := l.isLt
  rw [chunk_at, block_score m c arg2 harg2 arg3 harg3 t _ _ (by show 2048 * t.val + (128 * n + l.val) < 100000; omega)]
  unfold laneScores
  congr 1
  show 2048 * t.val + (128 * n + l.val) = 128 * (16 * t.val + n) + l.val
  ring

/-- The last block's chunks, the lanes past the keys at −∞. -/
theorem chunkM_score (ht : t.val = 48) (g : ℕ) (hg : g < NG) (n : ℕ) (hn : n < 16) (r : Fin 32) (l : Fin 128) :
    (chunkM (scoresOf arg2 harg2 arg3 harg3 (iblk m c 0 t) (iblk m c 1 t)) (BitVec.ofNat 32 48) g n hg hn (ix2 r l) : EReal)
      = laneScores m c (rowOf g hg r) l (16 * t.val + n) := by
  have hl := l.isLt
  refine (chunkM_at _ g n hg hn r l).trans ?_
  by_cases h : 128 * n + l.val < 1696
  · rw [if_pos h, chunk_at, block_score m c arg2 harg2 arg3 harg3 t _ _ (by show 2048 * t.val + (128 * n + l.val) < 100000; omega)]
    unfold laneScores
    congr 1
    show 2048 * t.val + (128 * n + l.val) = 128 * (16 * t.val + n) + l.val
    ring
  · rw [if_neg h]
    unfold laneScores scoreN
    rw [dif_neg (by omega)]

end Cert.TopLanes
end
-- ==== Proof.Cases.lean ====
module

public import proofs.«01_k».proof.Proof.Scores
public import Idealize.ShloMosaic.Lib.Pipeline.ValueKit.Basic

@[expose] public section
noncomputable section

/-!
# One grid point

What the body leaves in the scratch arrays in each of its three cases, and the ten results of the last one: the lists of
sixteen chunks more.
-/

namespace Cert.TopLanes

open Idealize.ShloMosaic Idealize.ShloMosaic.ValueIdx Cert.KernelIdeal Cert.KernelIdeal.Gen

theorem group_idx (g : ℕ) (hg : g < NG) (r : Fin 32) (k : Fin 640) :
    (grp g hg).toLoadRect.idx (ix2 r k) = ix2 (rowOf g hg r) k := by
  funext a
  apply Fin.ext
  match a with
  | ⟨0, _⟩ => show 32 * g + 1 * r.val = 32 * g + r.val; omega
  | ⟨1, _⟩ => show 0 + 1 * k.val = k.val; omega

theorem whole_idx (y : S1024x640.Idx) : whole640.toLoadRect.idx y = y := by
  funext a
  apply Fin.ext
  match a with
  | ⟨0, _⟩ => show 0 + 1 * (y 0).val = (y 0).val; omega
  | ⟨1, _⟩ => show 0 + 1 * (y 1).val = (y 1).val; omega

theorem keptT_at (arg6 : Memref sig .tc .vmem S1024x640 .f32) (harg6 : arg6.IsWhole) (xs0 : Vec Ideal S1024x640 .f32)
    (L : List (View.Piece (Elt Ideal) S1024x640 .f32)) (g : ℕ) (hg : g < NG) (r : Fin 32) (k : Fin 640) :
    keptT arg6 harg6 xs0 L g hg (ix2 r k) = xs0 (ix2 (rowOf g hg r) k) :=
  (harg6.readAt_unread (Val := Elt Ideal) xs0 (grp g hg).toLoadRect (ix2 r k)).trans (congrArg xs0 (group_idx g hg r k))

theorem keptI_at (arg7 : Memref sig .tc .vmem S1024x640 .i32) (harg7 : arg7.IsWhole) (xs1 : Vec Ideal S1024x640 .i32)
    (L : List (View.Piece (Elt Ideal) S1024x640 .i32)) (g : ℕ) (hg : g < NG) (r : Fin 32) (k : Fin 640) :
    keptI arg7 harg7 xs1 L g hg (ix2 r k) = xs1 (ix2 (rowOf g hg r) k) :=
  (harg7.readAt_unread (Val := Elt Ideal) xs1 (grp g hg).toLoadRect (ix2 r k)).trans (congrArg xs1 (group_idx g hg r k))

theorem fillT_at (y : S1024x640.Idx) : (View.canon (fillT (F := Ideal)) y : EReal) = ⊥ := by
  refine (congrFun (View.canon_cons_unit_lit (Val := Elt Ideal) (e := .f32) (S := S1024x640) (off := ![0, 0]) inb_S1024x640_S1024x640_0_0 (k0_pay2 (F := Ideal)) [] (fun a => by fin_cases a <;> rfl)) y).trans ?_
  unfold k0_pay2
  rw [shapeCast_self]
  show FloatOps.ofBits (F := Ideal) .f32 0xFF800000#32 = (⊥ : EReal)
  simp [FloatOps.ofBits, Ideal.ofBits, Ideal.ieee]

theorem fillI_at (y : S1024x640.Idx) : View.canon (fillI (F := Ideal)) y = 0#32 := by
  refine (congrFun (View.canon_cons_unit_lit (Val := Elt Ideal) (e := .i32) (S := S1024x640) (off := ![0, 0]) inb_S1024x640_S1024x640_0_0 k0_pay3 [] (fun a => by fin_cases a <;> rfl)) y).trans ?_
  unfold k0_pay3
  rw [shapeCast_self]
  rfl

/-- The first point's stores over its fills. -/
theorem holds_fill {a : Fin 1024 → Fin 128 → ℕ → EReal} (X : Chunks Ideal) (arg6 : Memref sig .tc .vmem S1024x640 .f32)
    (arg7 : Memref sig .tc .vmem S1024x640 .i32)
    (hX : ∀ g (hg : g < NG) n (hn : n < 16) (r : Fin 32) (l : Fin 128), X g n hg hn (ix2 r l) = a (rowOf g hg r) l (16 * 0 + n)) :
    Holds a (16 * 0 + 16) (View.canon (pcs X (BitVec.ofNat 32 0) (backT arg6) (backI arg7) fillT fillI NG le_rfl).1)
      (View.canon (pcs X (BitVec.ofNat 32 0) (backT arg6) (backI arg7) fillT fillI NG le_rfl).2) := by
  refine pcs_holds (T := fun _ => ⊥) (I := fun _ => 0#32) (by omega) hX (fun n hn r k => ?_) (fun n hn r k => ?_)
    (fun _ _ => kept_zero _ _ _ _ _)
  · refine (congrFun (View.readCov_eq_canon' arg6.view _ (grp n hn).toLoadRect) (ix2 r k)).trans ?_
    refine (congrArg (View.canon _) (group_idx n hn r k)).trans ?_
    refine (stack_above (fun n hn => (pcs X (BitVec.ofNat 32 0) (backT arg6) (backI arg7) fillT fillI n hn).1) _ (fun n hn => rfl)
      n (Nat.le_of_lt hn) (ix2 (rowOf n hn r) k) ?_).trans (fillT_at _)
    show 32 * n ≤ 32 * n + r.val
    omega
  · refine (congrFun (View.readCov_eq_canon' arg7.view _ (grp n hn).toLoadRect) (ix2 r k)).trans ?_
    refine (congrArg (View.canon _) (group_idx n hn r k)).trans ?_
    refine (stack_above (fun n hn => (pcs X (BitVec.ofNat 32 0) (backT arg6) (backI arg7) fillT fillI n hn).2) _ (fun n hn => rfl)
      n (Nat.le_of_lt hn) (ix2 (rowOf n hn r) k) ?_).trans (fillI_at _)
    show 32 * n ≤ 32 * n + r.val
    omega

/-- A later point's stores over the arrays it finds. -/
theorem holds_kept {a : Fin 1024 → Fin 128 → ℕ → EReal} {jj : ℕ} (hj : jj < 49) (X : Chunks Ideal)
    (arg6 : Memref sig .tc .vmem S1024x640 .f32) (harg6 : arg6.IsWhole) (arg7 : Memref sig .tc .vmem S1024x640 .i32)
    (harg7 : arg7.IsWhole) (xs0 : Vec Ideal S1024x640 .f32) (xs1 : Vec Ideal S1024x640 .i32)
    (hX : ∀ g (hg : g < NG) n (hn : n < 16) (r : Fin 32) (l : Fin 128), X g n hg hn (ix2 r l) = a (rowOf g hg r) l (16 * jj + n))
    (h : Holds a (16 * jj) xs0 xs1) :
    Holds a (16 * jj + 16) (View.canon (pcs X (BitVec.ofNat 32 jj) (keptT arg6 harg6 xs0) (keptI arg7 harg7 xs1) [] [] NG le_rfl).1)
      (View.canon (pcs X (BitVec.ofNat 32 jj) (keptT arg6 harg6 xs0) (keptI arg7 harg7 xs1) [] [] NG le_rfl).2) :=
  pcs_holds hj hX (fun n hn r k => keptT_at arg6 harg6 xs0 _ n hn r k) (fun n hn r k => keptI_at arg7 harg7 xs1 _ n hn r k) h

section point

variable (c : Dev nD) (i : grid0.Coords) (arg2 : Memref sig .tc .vmem S1024x128 .f32) (harg2 : arg2.IsWhole)
  (arg3 : Memref sig .tc .vmem S2048x128 .f32) (harg3 : arg3.IsWhole) (arg4 : Memref sig .tc .vmem S1024x10 .f32) (harg4 : arg4.IsWhole)
  (arg5 : Memref sig .tc .vmem S1024x10 .i32) (harg5 : arg5.IsWhole) (arg6 : Memref sig .tc .vmem S1024x640 .f32) (harg6 : arg6.IsWhole)
  (arg7 : Memref sig .tc .vmem S1024x640 .i32) (harg7 : arg7.IsWhole)
  (x0 : Vec Ideal S1024x128 .f32) (x1 : Vec Ideal S2048x128 .f32) (xs0 : Vec Ideal S1024x640 .f32) (xs1 : Vec Ideal S1024x640 .i32)
  {a : Fin 1024 → Fin 128 → ℕ → EReal} {jj : ℕ}

/-- The first point. -/
theorem holds_A (hc0 : cond0_0 i) (hc1 : cond0_1 i) (hc2 : ¬cond0_2 i) (hi : (i 1).val = jj) (h0 : jj = 0)
    (hX : ∀ g (hg : g < NG) n (hn : n < 16) (r : Fin 32) (l : Fin 128),
      chunk (scoresOf arg2 harg2 arg3 harg3 x0 x1) g n hg hn (ix2 r l) = a (rowOf g hg r) l (16 * jj + n)) :
    Holds a (16 * jj + 16)
      (sout0_A_0 c i arg2 harg2 arg3 harg3 arg4 harg4 arg5 harg5 arg6 harg6 arg7 harg7 hc0 hc1 hc2 x0 x1)
      (sout0_A_1 c i arg2 harg2 arg3 harg3 arg4 harg4 arg5 harg5 arg6 harg6 arg7 harg7 hc0 hc1 hc2 x0 x1) := by
  have e0 : sout0_A_0 c i arg2 harg2 arg3 harg3 arg4 harg4 arg5 harg5 arg6 harg6 arg7 harg7 hc0 hc1 hc2 x0 x1 = View.canon _ :=
    (View.read_writes_junk_eq_canon VS0_0 _).trans (congrArg View.canon (pieces_A_T c i arg2 harg2 arg3 harg3 arg4 harg4 arg5 harg5 arg6 harg6 arg7 harg7 x0 x1 hc0 hc1 hc2))
  have e1 : sout0_A_1 c i arg2 harg2 arg3 harg3 arg4 harg4 arg5 harg5 arg6 harg6 arg7 harg7 hc0 hc1 hc2 x0 x1 = View.canon _ :=
    (View.read_writes_junk_eq_canon VS0_1 _).trans (congrArg View.canon (pieces_A_I c i arg2 harg2 arg3 harg3 arg4 harg4 arg5 harg5 arg6 harg6 arg7 harg7 x0 x1 hc0 hc1 hc2))
  rw [e0, e1, hi]
  subst h0
  exact holds_fill _ arg6 arg7 hX

/-- A middle point. -/
theorem holds_B (hc0 : ¬cond0_0 i) (hc1 : cond0_1 i) (hc2 : ¬cond0_2 i) (hi : (i 1).val = jj) (hj : jj < 49)
    (hX : ∀ g (hg : g < NG) n (hn : n < 16) (r : Fin 32) (l : Fin 128),
      chunk (scoresOf arg2 harg2 arg3 harg3 x0 x1) g n hg hn (ix2 r l) = a (rowOf g hg r) l (16 * jj + n))
    (h : Holds a (16 * jj) xs0 xs1) :
    Holds a (16 * jj + 16)
      (sout0_B_0 c i arg2 harg2 arg3 harg3 arg4 harg4 arg5 harg5 arg6 harg6 arg7 harg7 hc0 hc1 hc2 x0 x1 xs0 xs1)
      (sout0_B_1 c i arg2 harg2 arg3 harg3 arg4 harg4 arg5 harg5 arg6 harg6 arg7 harg7 hc0 hc1 hc2 x0 x1 xs0 xs1) := by
  have e0 : sout0_B_0 c i arg2 harg2 arg3 harg3 arg4 harg4 arg5 harg5 arg6 harg6 arg7 harg7 hc0 hc1 hc2 x0 x1 xs0 xs1 = View.canon _ :=
    (View.read_writes_junk_eq_canon VS0_0 _).trans (congrArg View.canon (pieces_B_T c i arg2 harg2 arg3 harg3 arg4 harg4 arg5 harg5 arg6 harg6 arg7 harg7 x0 x1 xs0 xs1 hc0 hc1 hc2))
  have e1 : sout0_B_1 c i arg2 harg2 arg3 harg3 arg4 harg4 arg5 harg5 arg6 harg6 arg7 harg7 hc0 hc1 hc2 x0 x1 xs0 xs1 = View.canon _ :=
    (View.read_writes_junk_eq_canon VS0_1 _).trans (congrArg View.canon (pieces_B_I c i arg2 harg2 arg3 harg3 arg4 harg4 arg5 harg5 arg6 harg6 arg7 harg7 x0 x1 xs0 xs1 hc0 hc1 hc2))
  rw [e0, e1, hi]
  exact holds_kept hj _ arg6 harg6 arg7 harg7 xs0 xs1 hX h

/-- The lists the last point draws from. -/
theorem holds_C (hi : (i 1).val = jj) (hj : jj < 49)
    (hX : ∀ g (hg : g < NG) n (hn : n < 16) (r : Fin 32) (l : Fin 128),
      chunkM (scoresOf arg2 harg2 arg3 harg3 x0 x1) (BitVec.ofNat 32 jj) g n hg hn (ix2 r l) = a (rowOf g hg r) l (16 * jj + n))
    (h : Holds a (16 * jj) xs0 xs1) :
    Holds a (16 * jj + 16) (lastT arg6 (lastPcs i arg2 harg2 arg3 harg3 arg6 harg6 arg7 harg7 x0 x1 xs0 xs1).1)
      (lastI arg7 (lastPcs i arg2 harg2 arg3 harg3 arg6 harg6 arg7 harg7 x0 x1 xs0 xs1).2) := by
  unfold lastT lastI lastPcs
  rw [View.readCov_eq_canon', View.readCov_eq_canon', hi]
  simp only [whole_idx]
  exact holds_kept hj _ arg6 harg6 arg7 harg7 xs0 xs1 hX h

/-- The last point's results are the draws. -/
theorem out_C_2 (hc0 : ¬cond0_0 i) (hc1 : ¬cond0_1 i) (hc2 : cond0_2 i) :
    out0_C_2 c i arg2 harg2 arg3 harg3 arg4 harg4 arg5 harg5 arg6 harg6 arg7 harg7 hc0 hc1 hc2 x0 x1 xs0 xs1
      = tenT (colsOf (F := Ideal) (lastI arg7 (lastPcs i arg2 harg2 arg3 harg3 arg6 harg6 arg7 harg7 x0 x1 xs0 xs1).2))
            (lastT arg6 (lastPcs i arg2 harg2 arg3 harg3 arg6 harg6 arg7 harg7 x0 x1 xs0 xs1).1) := by
  unfold out0_C_2
  rw [View.read_writes_junk_eq_canon, pieces_C_2]
  exact View.canon_cons_unit_lit _ _ [] (fun a => by fin_cases a <;> rfl)

theorem out_C_3 (hc0 : ¬cond0_0 i) (hc1 : ¬cond0_1 i) (hc2 : cond0_2 i) :
    out0_C_3 c i arg2 harg2 arg3 harg3 arg4 harg4 arg5 harg5 arg6 harg6 arg7 harg7 hc0 hc1 hc2 x0 x1 xs0 xs1
      = tenI (colsOf (F := Ideal) (lastI arg7 (lastPcs i arg2 harg2 arg3 harg3 arg6 harg6 arg7 harg7 x0 x1 xs0 xs1).2))
            (lastT arg6 (lastPcs i arg2 harg2 arg3 harg3 arg6 harg6 arg7 harg7 x0 x1 xs0 xs1).1) := by
  unfold out0_C_3
  rw [View.read_writes_junk_eq_canon, pieces_C_3]
  exact View.canon_cons_unit_lit _ _ [] (fun a => by fin_cases a <;> rfl)

end point

end Cert.TopLanes
end
-- ==== Proof.Grid.lean ====
module

public import proofs.«01_k».proof.Proof.Cases

@[expose] public section
noncomputable section

/-!
# The whole grid

Block after block the scratch arrays hold the lists of all chunks so far; the two results are the draws from the lists of
all 784 chunks.
-/

namespace Cert.TopLanes

open Idealize.ShloMosaic Idealize.ShloMosaic.ValueIdx Cert.KernelIdeal Cert.KernelIdeal.Gen Cert.KernelIdeal.Value

variable (m : (ℓ : Loc nD τ sig) → Buf (Elt Ideal) ℓ) (c : Dev nD)

/-- The first point leaves the lists of its sixteen chunks. -/
theorem point_A (t : Fin cfg0.N) (acc : Vec Ideal S1024x10 .f32 × Vec Ideal S1024x10 .i32 × Vec Ideal S1024x640 .f32 × Vec Ideal S1024x640 .i32)
    (h0 : t.val % 49 = 0) (h1 : t.val < 48) (h2 : ¬t.val % 49 = 48) (hz : t.val = 0) :
    Holds (laneScores m c) (16 * t.val + 16) (stAt0 m c t.val t.isLt acc).2.2.1 (stAt0 m c t.val t.isLt acc).2.2.2 := by
  rw [stAt0_A m c t acc h0 h1 h2]
  dsimp only
  exact holds_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)
    ((hcond0_0 t).mpr h0) ((hcond0_1 t).mpr h1) (fun h => h2 ((hcond0_2 t).mp h)) (coord_1 t) hz
    (chunk_score m c (ms0_0 t) (hs0_0 t) (ms0_1 t) (hs0_1 t) t h1)

/-- A middle point adds its sixteen chunks. -/
theorem point_B (t : Fin cfg0.N) (acc : Vec Ideal S1024x10 .f32 × Vec Ideal S1024x10 .i32 × Vec Ideal S1024x640 .f32 × Vec Ideal S1024x640 .i32)
    (h0 : ¬t.val % 49 = 0) (h1 : t.val < 48) (h2 : ¬t.val % 49 = 48) (h : Holds (laneScores m c) (16 * t.val) acc.2.2.1 acc.2.2.2) :
    Holds (laneScores m c) (16 * t.val + 16) (stAt0 m c t.val t.isLt acc).2.2.1 (stAt0 m c t.val t.isLt acc).2.2.2 := by
  rw [stAt0_B m c t acc h0 h1 h2]
  dsimp only
  exact holds_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) acc.2.2.1 acc.2.2.2
    (fun h => h0 ((hcond0_0 t).mp h)) ((hcond0_1 t).mpr h1) (fun h => h2 ((hcond0_2 t).mp h)) (coord_1 t) (Nat.lt_succ_of_lt h1)
    (chunk_score m c (ms0_0 t) (hs0_0 t) (ms0_1 t) (hs0_1 t) t h1) h

/-- The last point draws from the lists with its sixteen chunks added. -/
theorem point_C (t : Fin cfg0.N) (acc : Vec Ideal S1024x10 .f32 × Vec Ideal S1024x10 .i32 × Vec Ideal S1024x640 .f32 × Vec Ideal S1024x640 .i32)
    (h0 : ¬t.val % 49 = 0) (h1 : ¬t.val < 48) (h2 : t.val % 49 = 48) (ht : t.val = 48)
    (h : Holds (laneScores m c) (16 * t.val) acc.2.2.1 acc.2.2.2) :
    ∃ (T : Vec Ideal S1024x640 .f32) (I : Vec Ideal S1024x640 .i32), Holds (laneScores m c) (16 * t.val + 16) T I ∧
      (stAt0 m c t.val t.isLt acc).1 = tenT (F := Ideal) (colsOf (F := Ideal) I) T ∧
      (stAt0 m c t.val t.isLt acc).2.1 = tenI (F := Ideal) (colsOf (F := Ideal) I) T := by
  rw [stAt0_C m c t acc h0 h1 h2]
  dsimp only
  have hX : ∀ g (hg : g < NG) n (hn : n < 16) (r : Fin 32) (l : Fin 128),
      (chunkM (scoresOf (ms0_0 t) (hs0_0 t) (ms0_1 t) (hs0_1 t) (iblk m c 0 t) (iblk m c 1 t)) (BitVec.ofNat 32 t.val) g n hg hn
        (ix2 r l) : EReal) = laneScores m c (rowOf g hg r) l (16 * t.val + n) := fun g hg n hn r l =>
    (congrArg (fun w : ℕ => (chunkM (scoresOf (ms0_0 t) (hs0_0 t) (ms0_1 t) (hs0_1 t) (iblk m c 0 t) (iblk m c 1 t)) (BitVec.ofNat 32 w)
      g n hg hn (ix2 r l) : EReal)) ht).trans (chunkM_score m c (ms0_0 t) (hs0_0 t) (ms0_1 t) (hs0_1 t) t ht g hg n hn r l)
  exact ⟨_, _, holds_C (grid0.coords t) (ms0_0 t) (hs0_0 t) (ms0_1 t) (hs0_1 t)
      scM0_0 (Memref.isWhole_whole _) scM0_1 (Memref.isWhole_whole _) (iblk m c 0 t) (iblk m c 1 t) acc.2.2.1 acc.2.2.2
      (coord_1 t) (by omega) hX h,
    out_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) acc.2.2.1 acc.2.2.2
      (fun h => h0 ((hcond0_0 t).mp h)) (fun h => h1 ((hcond0_1 t).mp h)) ((hcond0_2 t).mpr h2),
    out_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) acc.2.2.1 acc.2.2.2
      (fun h => h0 ((hcond0_0 t).mp h)) (fun h => h1 ((hcond0_1 t).mp h)) ((hcond0_2 t).mpr h2)⟩

/-- One point further. -/
theorem point_next (n : ℕ) (hn : n + 1 < cfg0.N) (h48 : n + 1 < 48)
    (h : Holds (laneScores m c) (16 * (n + 1)) (outsAt0 m c n (Nat.lt_of_succ_lt hn)).2.2.1 (outsAt0 m c n (Nat.lt_of_succ_lt hn)).2.2.2) :
    Holds (laneScores m c) (16 * (n + 1) + 16) (outsAt0 m c (n + 1) hn).2.2.1 (outsAt0 m c (n + 1) hn).2.2.2 := by
  have n0 : ¬ (n + 1) % 49 = 0 := by omega
  have n2 : ¬ (n + 1) % 49 = 48 := by omega
  rw [outsAt0_succ m c n hn]
  generalize outsAt0 m c n (Nat.lt_of_succ_lt hn) = acc at h ⊢
  generalize n + 1 = k at hn h48 h n0 n2 ⊢
  exact point_B m c ⟨k, hn⟩ acc n0 h48 n2 h

/-- The first point. -/
theorem point_first (n : ℕ) (hn : n < cfg0.N) (hz : n = 0) :
    Holds (laneScores m c) (16 * n + 16) (outsAt0 m c n hn).2.2.1 (outsAt0 m c n hn).2.2.2 := by
  have e : outsAt0 m c n hn = stAt0 m c n hn junk0 := by subst hz; exact outsAt0_zero m c hn
  rw [e]
  exact point_A m c ⟨n, hn⟩ junk0 (by show n % 49 = 0; omega) (by show n < 48; omega) (by show ¬ n % 49 = 48; omega) hz

/-- After block `n`, the lists of `16 (n + 1)` chunks. -/
def Upto (n : ℕ) : Prop := ∀ hn : n < cfg0.N, n < 48 →
  Holds (laneScores m c) (16 * n + 16) (outsAt0 m c n hn).2.2.1 (outsAt0 m c n hn).2.2.2

theorem holds_upto (n : ℕ) : Upto m c n := by
  have s : ∀ k, Upto m c k → Upto m c (k + 1) := fun k ih hn h48 =>
    point_next m c k hn h48 (ih (Nat.lt_of_succ_lt hn) (Nat.lt_of_succ_lt h48))
  have z : Upto m c 0 := fun hn _ => point_first m c 0 hn rfl
  exact Nat.rec z s n

/-- The last point. -/
theorem last_from (n : ℕ) (hn : n < cfg0.N)
    (acc : Vec Ideal S1024x10 .f32 × Vec Ideal S1024x10 .i32 × Vec Ideal S1024x640 .f32 × Vec Ideal S1024x640 .i32)
    (h48 : n = 48) (e : outsAt0 m c n hn = stAt0 m c n hn acc) (h : Holds (laneScores m c) 768 acc.2.2.1 acc.2.2.2) :
    ∃ (T : Vec Ideal S1024x640 .f32) (I : Vec Ideal S1024x640 .i32), Holds (laneScores m c) 784 T I ∧
      (outsAt0 m c n hn).1 = tenT (F := Ideal) (colsOf (F := Ideal) I) T ∧
      (outsAt0 m c n hn).2.1 = tenI (F := Ideal) (colsOf (F := Ideal) I) T := by
  rw [e, show 784 = 16 * n + 16 by omega]
  rw [show 768 = 16 * n by omega] at h
  exact point_C m c ⟨n, hn⟩ acc (by show ¬ n % 49 = 0; omega) (by show ¬ n < 48; omega) (by show n % 49 = 48; omega) h48 h

theorem first_result (n : ℕ) (hn : n < cfg0.N) (h : n = 48) : G2 m c = (outsAt0 m c n hn).1 := by
  rw [outsAt0_sweep m c n hn]
  subst h
  exact G2_last m c

theorem second_result (n : ℕ) (hn : n < cfg0.N) (h : n = 48) : G3 m c = (outsAt0 m c n hn).2.1 := by
  have e := outsAt0_sweep m c n hn
  generalize outsAt0 m c n hn = x at e ⊢
  subst h
  rw [G3_last m c, ← e]

theorem results_from (k : ℕ) (hk : k = 47) (hn : k + 1 < cfg0.N) :
    ∃ (T : Vec Ideal S1024x640 .f32) (I : Vec Ideal S1024x640 .i32), Holds (laneScores m c) 784 T I ∧
      G2 m c = tenT (F := Ideal) (colsOf (F := Ideal) I) T ∧ G3 m c = tenI (F := Ideal) (colsOf (F := Ideal) I) T := by
  have h := holds_upto m c k (Nat.lt_of_succ_lt hn) (by omega)
  rw [show 16 * k + 16 = 768 by omega] at h
  rw [first_result m c (k + 1) hn (by omega), second_result m c (k + 1) hn (by omega)]
  exact last_from m c (k + 1) hn _ (by omega) (outsAt0_succ m c k hn) h

/-- The two results are the ten draws from lists of all chunks. -/
theorem results : ∃ (T : Vec Ideal S1024x640 .f32) (I : Vec Ideal S1024x640 .i32), Holds (laneScores m c) 784 T I ∧
    G2 m c = tenT (F := Ideal) (colsOf (F := Ideal) I) T ∧ G3 m c = tenI (F := Ideal) (colsOf (F := Ideal) I) T :=
  results_from m c 47 rfl (lt_of_lt_of_eq (by decide) N_0.symm)

end Cert.TopLanes
end
-- ==== Proof.Extract.lean ====
/-
  The last pass. From the cells of a row (a score and a column each) it takes ten times the greatest score with the least of
  the columns that have it, and clears that cell. When the cells whose scores reach the row's tenth best one stand, one each, for
  the columns whose scores do, the ten rounds give the entries of ranks 0 to 9.
-/
module

public import proofs.«01_k».proof.Proof.Rank

@[expose] public section

noncomputable section

namespace Cert.TopLanes

variable {Q : Type} {N : ℕ}

/-- The cells with scores of at least `θ` stand, one each, for the columns with scores of at least `θ`. -/
structure Stands (V : Q → EReal) (C : Q → ℤ) (f : Fin N → EReal) (θ : EReal) : Prop where
  floor : ⊥ < θ
  real : ∀ q, θ ≤ V q → ∃ n : Fin N, C q = n.val ∧ V q = f n
  one : ∀ q q', θ ≤ V q → θ ≤ V q' → C q = C q' → q = q'
  all : ∀ n, θ ≤ f n → ∃ q, V q = f n ∧ C q = n.val

/-- The scores after `r` rounds: the cells of the first `r` entries cleared, the others as they were. -/
def Cleared (V : Q → EReal) (C : Q → ℤ) (θ : EReal) (p : ℕ → Fin N) (r : ℕ) (w : Q → EReal) : Prop :=
  ∀ q, ((θ ≤ V q ∧ ∃ r' < r, C q = (p r').val) → w q = ⊥) ∧ (¬ (θ ≤ V q ∧ ∃ r' < r, C q = (p r').val) → w q = V q)

theorem cleared_zero (V : Q → EReal) (C : Q → ℤ) (θ : EReal) (p : ℕ → Fin N) : Cleared V C θ p 0 V := fun q =>
  ⟨fun ⟨_, r', h, _⟩ => absurd h (Nat.not_lt_zero _), fun _ => rfl⟩

variable {V : Q → EReal} {C : Q → ℤ} {f : Fin N → EReal} {θ : EReal} {p : ℕ → Fin N} {k : ℕ}

/-- One round: the greatest score is that of the entry of rank `r`, its least column is that entry. -/
theorem round (hS : Stands V C f θ) (hp : ∀ r ≤ k, rk Finset.univ f (p r) = r) (hθ : f (p k) = θ) {r : ℕ} (hr : r ≤ k)
    {w : Q → EReal} (hw : Cleared V C θ p r w) {m : EReal} (hm : ∀ q, w q ≤ m) (hm' : ∃ q, w q = m)
    {x : ℤ} (hx : ∀ q, w q = m → x ≤ C q) (hx' : ∃ q, w q = m ∧ C q = x) :
    m = f (p r) ∧ x = (p r).val ∧ ∀ w' : Q → EReal, (∀ q, w' q = if w q = m ∧ C q = x then ⊥ else w q) →
      Cleared V C θ p (r + 1) w' := by
  have hge : ∀ r' ≤ k, θ ≤ f (p r') := fun r' h' => by
    rw [← hθ]
    rcases eq_or_lt_of_le h' with rfl | h'
    · exact le_rfl
    · exact (before_of_rk_lt (s := Finset.univ) (Finset.mem_univ _) (by rw [hp r' h'.le, hp k le_rfl]; exact h')).le
  have hpi : ∀ r' ≤ k, ∀ r'' ≤ k, p r' = p r'' → r' = r'' := fun r' h' r'' h'' h => by
    rw [← hp r' h', ← hp r'' h'', h]
  -- the cell of the entry of rank `r` is still there
  obtain ⟨q₀, hv₀, hc₀⟩ := hS.all (p r) (hge r hr)
  have hw₀ : w q₀ = f (p r) := by
    rw [(hw q₀).2, hv₀]
    rintro ⟨-, r', hr', he⟩
    have : p r = p r' := Fin.ext (by exact_mod_cast hc₀.symm.trans he)
    exact absurd (hpi r hr r' (by omega) this) (by omega)
  have hmge : f (p r) ≤ m := hw₀ ▸ hm q₀
  -- any cell still there with a score of at least `θ` is at or after the entry of rank `r`
  have hcell : ∀ q, w q = m → ∃ n : Fin N, C q = n.val ∧ w q = f n ∧ V q = f n ∧ (n = p r ∨ Before f (p r) n) := by
    intro q hq
    have hwge : θ ≤ w q := hq ▸ (hge r hr).trans hmge
    have hn : ¬ (θ ≤ V q ∧ ∃ r' < r, C q = (p r').val) := fun h => by
      rw [(hw q).1 h] at hwge
      exact absurd hS.floor (not_lt.mpr hwge)
    have hwV := (hw q).2 hn
    obtain ⟨n, hn1, hn2⟩ := hS.real q (hwV ▸ hwge)
    refine ⟨n, hn1, hwV.trans hn2, hn2, ?_⟩
    by_cases he : n = p r
    · exact Or.inl he
    · refine Or.inr ((Before.total f he).resolve_left fun hb => hn ⟨hwV ▸ hwge, ?_⟩)
      have hlt := rk_lt (s := Finset.univ) (Finset.mem_univ _) hb
      rw [hp r hr] at hlt
      refine ⟨_, hlt, ?_⟩
      rw [hn1]
      have : n = p (rk Finset.univ f n) := rk_inj (s := Finset.univ) (Finset.mem_univ _) (Finset.mem_univ _) (hp _ (by omega)).symm
      rw [← this]
  obtain ⟨q₁, hq₁⟩ := hm'
  have hmeq : m = f (p r) := by
    obtain ⟨n, -, hn2, -, hn3⟩ := hcell q₁ hq₁
    apply le_antisymm _ hmge
    rw [← hq₁, hn2]
    rcases hn3 with rfl | hb
    · exact le_rfl
    · exact hb.le
  have hxeq : x = (p r).val := by
    apply le_antisymm
    · rw [← hc₀]; exact hx q₀ (hw₀.trans hmeq.symm)
    · obtain ⟨q₂, hq₂, hq₂'⟩ := hx'
      obtain ⟨n, hn1, hn2, -, hn3⟩ := hcell q₂ hq₂
      rw [← hq₂', hn1]
      rcases hn3 with rfl | hb
      · exact le_rfl
      · rcases hb with hb | ⟨-, hb⟩
        · rw [← hn2, hq₂, hmeq] at hb; exact absurd hb (lt_irrefl _)
        · exact_mod_cast hb.le
  refine ⟨hmeq, hxeq, fun w' hw' q => ⟨?_, ?_⟩⟩
  · rintro ⟨hV, r', hr', he⟩
    rw [hw' q]
    rcases Nat.lt_succ_iff_lt_or_eq.mp hr' with hlt | rfl
    · have := (hw q).1 ⟨hV, r', hlt, he⟩
      rw [this]; exact ite_self _
    · have : q = q₀ := hS.one q q₀ hV (by rw [hv₀]; exact hge r' hr) (he.trans hc₀.symm)
      subst this
      rw [if_pos ⟨hw₀.trans hmeq.symm, by rw [hxeq, hc₀]⟩]
  · intro hn
    rw [hw' q]
    have hn' : ¬ (θ ≤ V q ∧ ∃ r' < r, C q = (p r').val) := fun ⟨h1, r', h2, h3⟩ => hn ⟨h1, r', by omega, h3⟩
    rw [if_neg, (hw q).2 hn']
    rintro ⟨h1, h2⟩
    refine hn ⟨?_, r, by omega, h2.trans hxeq⟩
    rw [← (hw q).2 hn', h1, hmeq]; exact hge r hr

end Cert.TopLanes

end
-- ==== Proof.Rounds.lean ====
module

public import proofs.«01_k».proof.Proof.Draw
public import proofs.«01_k».proof.Proof.Extract
public import Idealize.ShloMosaic.Lib.ValueIdx
public import Idealize.ShloMosaic.PureOps.Reduce
public import Idealize.ShloMosaic.PureOps.Ideal.Laws

@[expose] public section
noncomputable section

/-!
# The ten rounds, read

At the ideal instance a round of `Draw.lean` is a round of `Extract.lean`, row by row: so when the kept cells stand for
the entries down to the tenth, the ten results are the ten first entries.
-/

namespace Cert.TopLanes

open Idealize.ShloMosaic Idealize.ShloMosaic.ValueIdx Cert.KernelIdeal Cert.KernelIdeal.Gen

/-- A fold of an operation that picks one of its operands is the start or one of the values. -/
theorem fold_picks {ι α : Type} [DecidableEq ι] (op : α → α → α) [Std.Commutative op] [Std.Associative op]
    (h : ∀ x y, op x y = x ∨ op x y = y) (b : α) (f : ι → α) (s : Finset ι) : s.fold op b f = b ∨ ∃ i ∈ s, s.fold op b f = f i := by
  induction s using Finset.induction_on with
  | empty => exact .inl rfl
  | insert i s hi ih =>
    rw [Finset.fold_insert hi]
    rcases h (f i) (s.fold op b f) with e | e
    · exact .inr ⟨i, Finset.mem_insert_self i s, e⟩
    · rw [e]
      rcases ih with ih | ⟨j, hj, ih⟩
      · exact .inl ih
      · exact .inr ⟨j, Finset.mem_insert_of_mem hj, ih⟩

theorem lift_at (q : Fin 1024) (k : Fin 640) :
    (reduces_S1024x640_S1024 : S1024x640.Reduces [1] S1024).lift (ix1 q) k = ix2 q k := by
  funext a
  apply Fin.ext
  match a with
  | ⟨0, _⟩ => rfl
  | ⟨1, _⟩ => rfl

theorem column_at {α : Type} (x : S1024.Idx → α) (q : Fin 1024) :
    shapeCast S1024x1 x shapeCasts_S1024_S1024x1 (ix2 q 0) = x (ix1 q) := by
  refine shapeCast_apply x _ (ix2 q 0) (ix1 q) ?_
  rw [Shape.rowMajor_val_one, Shape.rowMajor_val_two]
  show q.val = q.val * 1 + 0
  omega

theorem spread_at {α : Type} (x : S1024x1.Idx → α) (q : Fin 1024) (k : Fin 640) :
    broadcastTo S1024x640 x broadcasts_S1024x1_S1024x640 (ix2 q k) = x (ix2 q 0) := by
  refine broadcastTo_apply x _ (ix2 q k) (ix2 q 0) fun a => ?_
  match a with
  | ⟨0, _⟩ => rfl
  | ⟨1, _⟩ => rfl

variable (col : IVec S1024x640 32) (cv : FVec Ideal S1024x640 .f32) (q : Fin 1024)

theorem top_eq : (top cv (ix2 q 0) : EReal) = (Finset.univ : Finset (Fin 640)).fold max ⊥ fun k => (cv (ix2 q k) : EReal) := by
  unfold top
  rw [column_at]
  refine (Ideal.multiReduction_maximumf_single cv 0xFF800000#32 reduces_S1024x640_S1024 _ _ (ix1 q)).trans ?_
  have e : (FloatOps.ofBits (F := Ideal) .f32 0xFF800000#32 : EReal) = ⊥ := by simp [FloatOps.ofBits, Ideal.ofBits, Ideal.ieee]
  rw [e]
  exact Finset.fold_congr fun k _ => congrArg cv (lift_at q k)

theorem le_top (k : Fin 640) : (cv (ix2 q k) : EReal) ≤ top cv (ix2 q 0) := by
  rw [top_eq, Finset.le_fold_max]
  exact .inr ⟨k, Finset.mem_univ k, le_rfl⟩

theorem top_attained : ∃ k : Fin 640, (cv (ix2 q k) : EReal) = top cv (ix2 q 0) := by
  have h := fold_picks (max : EReal → EReal → EReal) (fun x y => max_choice x y) ⊥ (fun k => (cv (ix2 q k) : EReal)) (Finset.univ : Finset (Fin 640))
  rw [← top_eq] at h
  rcases h with h | ⟨k, _, h⟩
  · exact ⟨0, le_antisymm (le_top cv q 0) (by rw [h]; exact bot_le)⟩
  · exact ⟨k, h.symm⟩

theorem isTop_at (k : Fin 640) : isTop cv (ix2 q k) = BitVec.ofBool (decide ((cv (ix2 q k) : EReal) = top cv (ix2 q 0))) := by
  unfold isTop
  show Ideal.cmp .oeq (cv (ix2 q k)) (broadcastTo S1024x640 (top cv) broadcasts_S1024x1_S1024x640 (ix2 q k)) = _
  rw [spread_at]
  rfl

theorem select_bool {α : Type} (b : Bool) (x y : α) : Scalar.select (BitVec.ofBool b) x y = if b then x else y := by
  cases b <;> simp [Scalar.select]

/-- A cell's column where the cell is greatest, the largest word elsewhere. -/
def cand (k : Fin 640) : BitVec 32 := if (cv (ix2 q k) : EReal) = top cv (ix2 q 0) then col (ix2 q k) else 2147483647#32

theorem cand_eq (k : Fin 640) : select (isTop cv) col (broadcast S1024x640 2147483647#32) (ix2 q k) = cand col cv q k := by
  show Scalar.select (isTop cv (ix2 q k)) (col (ix2 q k)) 2147483647#32 = _
  rw [isTop_at, select_bool]
  unfold cand
  simp only [decide_eq_true_eq]

theorem pick_eq : pick col cv (ix2 q 0) = (Finset.univ : Finset (Fin 640)).fold IKind.minsi.op 2147483647#32 (cand col cv q) := by
  unfold pick
  rw [column_at]
  refine (multiReductionI_eq_fold .minsi _ _ reduces_S1024x640_S1024 rfl (ix1 q)).trans ?_
  rw [Shape.Reduces.fold_filter_drop_single]
  exact Finset.fold_congr fun k _ =>
    (congrArg (select (isTop cv) col (broadcast S1024x640 2147483647#32)) (lift_at q k)).trans (cand_eq col cv q k)

theorem toInt_min (a b : BitVec 32) : (IKind.minsi.op a b).toInt = min a.toInt b.toInt := by
  show (if a.slt b then a else b).toInt = _
  by_cases h : a.toInt < b.toInt
  · rw [show a.slt b = true from decide_eq_true h, if_pos rfl, min_eq_left (le_of_lt h)]
  · rw [show a.slt b = false from decide_eq_false h, if_neg Bool.false_ne_true, min_eq_right (not_lt.mp h)]

theorem pick_le_cand (k : Fin 640) : (pick col cv (ix2 q 0)).toInt ≤ (cand col cv q k).toInt := by
  rw [pick_eq, ← Finset.fold_hom (op' := min) (m := BitVec.toInt) toInt_min, Finset.fold_min_le]
  exact .inr ⟨k, Finset.mem_univ k, le_rfl⟩

theorem pick_le (k : Fin 640) (h : (cv (ix2 q k) : EReal) = top cv (ix2 q 0)) : (pick col cv (ix2 q 0)).toInt ≤ (col (ix2 q k)).toInt := by
  have := pick_le_cand col cv q k
  rwa [cand, if_pos h] at this

theorem pick_attained : ∃ k : Fin 640, (cv (ix2 q k) : EReal) = top cv (ix2 q 0) ∧ (col (ix2 q k)).toInt = (pick col cv (ix2 q 0)).toInt := by
  have hmax : ∀ w : BitVec 32, w.toInt ≤ (2147483647#32).toInt := fun w => by
    have h1 : (2147483647#32).toInt = 2147483647 := by decide
    have := BitVec.toInt_lt (x := w)
    omega
  obtain ⟨k₀, h₀⟩ := top_attained cv q
  have hfall : (pick col cv (ix2 q 0)).toInt = (2147483647#32).toInt →
      ∃ k : Fin 640, (cv (ix2 q k) : EReal) = top cv (ix2 q 0) ∧ (col (ix2 q k)).toInt = (pick col cv (ix2 q 0)).toInt := fun h =>
    ⟨k₀, h₀, le_antisymm (by rw [h]; exact hmax _) (pick_le col cv q k₀ h₀)⟩
  have h := fold_picks IKind.minsi.op (fun x y => by
    show (if x.slt y then x else y) = x ∨ (if x.slt y then x else y) = y
    split
    · exact .inl rfl
    · exact .inr rfl) 2147483647#32 (cand col cv q) (Finset.univ : Finset (Fin 640))
  rw [← pick_eq] at h
  rcases h with h | ⟨k, _, h⟩
  · exact hfall (by rw [h])
  · by_cases e : (cv (ix2 q k) : EReal) = top cv (ix2 q 0)
    · exact ⟨k, e, by rw [h, cand, if_pos e]⟩
    · exact hfall (by rw [h, cand, if_neg e])

theorem strike_at (k : Fin 640) : (strike col cv (ix2 q k) : EReal)
    = if (cv (ix2 q k) : EReal) = top cv (ix2 q 0) ∧ (col (ix2 q k)).toInt = (pick col cv (ix2 q 0)).toInt then ⊥ else cv (ix2 q k) := by
  unfold strike
  show Scalar.select (isTop cv (ix2 q k) &&& IntOp.cmpi .eq (col (ix2 q k))
    (broadcastTo S1024x640 (pick col cv) broadcasts_S1024x1_S1024x640 (ix2 q k))) (FloatOps.ofBits (F := Ideal) .f32 0xFF800000#32) (cv (ix2 q k)) = _
  rw [spread_at, isTop_at]
  have e : (FloatOps.ofBits (F := Ideal) .f32 0xFF800000#32 : EReal) = ⊥ := by simp [FloatOps.ofBits, Ideal.ofBits, Ideal.ieee]
  rw [e]
  have e2 : IntOp.cmpi .eq (col (ix2 q k)) (pick col cv (ix2 q 0)) = BitVec.ofBool (decide (col (ix2 q k) = pick col cv (ix2 q 0))) := by
    show BitVec.ofBool _ = _
    congr 1
  simp only [e2, BitVec.toInt_inj]
  by_cases h1 : (cv (ix2 q k) : EReal) = top cv (ix2 q 0) <;> by_cases h2 : col (ix2 q k) = pick col cv (ix2 q 0) <;>
    simp [h1, h2, Scalar.select]

variable {N : ℕ} {f : Fin N → EReal} {θ : EReal} {p : ℕ → Fin N}

/-- What the cells are before each round. -/
theorem left_cleared (hS : Stands (fun k : Fin 640 => (cv (ix2 q k) : EReal)) (fun k => (col (ix2 q k)).toInt) f θ)
    (hp : ∀ r ≤ 9, rk Finset.univ f (p r) = r) (hθ : f (p 9) = θ) (r : ℕ) (hr : r ≤ 10) :
    Cleared (fun k : Fin 640 => (cv (ix2 q k) : EReal)) (fun k => (col (ix2 q k)).toInt) θ p r (fun k => (left col cv r (ix2 q k) : EReal)) := by
  induction r with
  | zero => exact cleared_zero _ _ _ _
  | succ r ih =>
    exact (round hS hp hθ (by omega : r ≤ 9) (ih (by omega)) (le_top (left col cv r) q) (top_attained (left col cv r) q)
      (pick_le col (left col cv r) q) (pick_attained col (left col cv r) q)).2.2 _ (strike_at col (left col cv r) q)

/-- The score and the column of round `r`. -/
theorem round_at (hS : Stands (fun k : Fin 640 => (cv (ix2 q k) : EReal)) (fun k => (col (ix2 q k)).toInt) f θ)
    (hp : ∀ r ≤ 9, rk Finset.univ f (p r) = r) (hθ : f (p 9) = θ) (r : ℕ) (hr : r ≤ 9) :
    (top (left col cv r) (ix2 q 0) : EReal) = f (p r) ∧ (pick col (left col cv r) (ix2 q 0)).toInt = (p r).val := by
  have h := round hS hp hθ hr (left_cleared col cv q hS hp hθ r (by omega)) (le_top (left col cv r) q) (top_attained (left col cv r) q)
      (pick_le col (left col cv r) q) (pick_attained col (left col cv r) q)
  exact ⟨h.1, h.2.1⟩

theorem ten_at {α : Type} (g : Fin 10 → S1024x1.Idx → α) (r : Fin 10) :
    concatenate S1024x10 1 (List.ofFn fun n : Fin 10 => ⟨S1024x1, g n⟩) (tens_fit g) (ix2 q r) = g r (ix2 q 0) := by
  refine concatenate_ofFn_unit_apply (1 : Fin S1024x10.rank) g (tens_fit g) rfl rfl (ix2 q r) r rfl (ix2 q 0) fun b hb => ?_
  match b with
  | ⟨0, _⟩ => rfl
  | ⟨1, _⟩ => exact absurd rfl hb

theorem tenT_at (hS : Stands (fun k : Fin 640 => (cv (ix2 q k) : EReal)) (fun k => (col (ix2 q k)).toInt) f θ)
    (hp : ∀ r ≤ 9, rk Finset.univ f (p r) = r) (hθ : f (p 9) = θ) (r : Fin 10) : (tenT col cv (ix2 q r) : EReal) = f (p r.val) := by
  unfold tenT
  rw [ten_at q _ r]
  exact (round_at col cv q hS hp hθ r.val (by have := r.isLt; omega)).1

theorem tenI_at (hN : N ≤ 100000) (hS : Stands (fun k : Fin 640 => (cv (ix2 q k) : EReal)) (fun k => (col (ix2 q k)).toInt) f θ)
    (hp : ∀ r ≤ 9, rk Finset.univ f (p r) = r) (hθ : f (p 9) = θ) (r : Fin 10) : tenI col cv (ix2 q r) = BitVec.ofNat 32 (p r.val).val := by
  unfold tenI
  rw [ten_at q _ r]
  have h := (round_at col cv q hS hp hθ r.val (by have := r.isLt; omega)).2
  apply BitVec.eq_of_toInt_eq
  rw [h]
  have := (p r.val).isLt
  rw [BitVec.toInt_eq_toNat_of_lt] <;> rw [BitVec.toNat_ofNat, Nat.mod_eq_of_lt] <;> omega

end Cert.TopLanes
end
-- ==== Proof.Columns.lean ====
module

public import proofs.«01_k».proof.Proof.Cells
public import proofs.«01_k».proof.Proof.Rounds

@[expose] public section
noncomputable section

/-!
# What the lists stand for

When every lane has at most four scores that reach the row's tenth best one, the cells that reach it stand, one each, for the
keys that do.
-/

namespace Cert.TopLanes

open Idealize.ShloMosaic Idealize.ShloMosaic.ValueIdx Cert.KernelIdeal Cert.KernelIdeal.Gen

theorem lane_word (q : Fin 1024) (l : Fin 128) :
    iota .tc S1024x128 32 [1] iota_S1024x128_d1_w32 (ix2 q l) = BitVec.ofNat 32 l.val := by
  show BitVec.ofNat 32 (0 * 128 + l.val) = _
  rw [Nat.zero_mul, Nat.zero_add]

theorem lanes_at {α : Type} (f : S1024x128.Idx → α) (q : Fin 1024) (k : Fin 5) (l : Fin 128) :
    concatenate S1024x640 1 (List.ofFn fun _ : Fin 5 => ⟨S1024x128, f⟩) (lanes_fit f) (ix2 q (colOf k l)) = f (ix2 q l) := by
  have hl := l.isLt
  refine concatenate_ofFn_apply (1 : Fin S1024x640.rank) (fun _ : Fin 5 => f) (lanes_fit f) rfl 128 rfl (ix2 q (colOf k l)) k ?_ (ix2 q l) ?_ ?_
  · show (128 * k.val + l.val) / 128 = k.val
    omega
  · show l.val = (128 * k.val + l.val) % 128
    omega
  · intro b hb
    match b with
    | ⟨0, _⟩ => rfl
    | ⟨1, _⟩ => exact absurd rfl hb

/-- The column of a cell that holds chunk `n`. -/
theorem col_at (I : Vec Ideal S1024x640 .i32) (q : Fin 1024) (k : Fin 5) (l : Fin 128) (n : ℕ) (hn : n < 784)
    (h : I (ix2 q (colOf k l)) = BitVec.ofNat 32 n) :
    (colsOf (F := Ideal) I (ix2 q (colOf k l))).toInt = ((128 * n + l.val : ℕ) : ℤ) := by
  have hl := l.isLt
  have e : colsOf (F := Ideal) I (ix2 q (colOf k l)) = I (ix2 q (colOf k l)) * 128#32 + BitVec.ofNat 32 l.val := by
    refine congrArg (fun w => I (ix2 q (colOf k l)) * 128#32 + w) ?_
    exact (lanes_at _ q k l).trans (lane_word q l)
  rw [e, h]
  have e2 : (BitVec.ofNat 32 n * 128#32 + BitVec.ofNat 32 l.val).toNat = 128 * n + l.val := by
    simp only [BitVec.toNat_add, BitVec.toNat_mul, BitVec.toNat_ofNat]
    omega
  rw [BitVec.toInt_eq_toNat_of_lt (by omega), e2]

theorem col_split (k : Fin 640) : ∃ s l, k = colOf s l := by
  have := k.isLt
  exact ⟨⟨k.val / 128, by omega⟩, ⟨k.val % 128, by omega⟩, Fin.ext (by show k.val = 128 * (k.val / 128) + k.val % 128; omega)⟩

section stands

variable {a : Fin 128 → ℕ → EReal} {T : Vec Ideal S1024x640 .f32} {I : Vec Ideal S1024x640 .i32} {q : Fin 1024}
  {f : Fin 100000 → EReal} {θ : EReal}

/-- One of the first four slots. -/
theorem slot_at (h : ∀ l, Kept (a l) 784 (cellAt T I q l)) (s : Fin 5) (hs : s.val < 4) (l : Fin 128) :
    Nth (a l) 784 (s.val + 1) (T (ix2 q (colOf s l))) ∧ At (a l) 784 s.val (T (ix2 q (colOf s l))) (I (ix2 q (colOf s l))) := by
  have k := h l
  match s, hs with
  | ⟨0, _⟩, _ => exact ⟨k.n1, k.a1⟩
  | ⟨1, _⟩, _ => exact ⟨k.n2, k.a2⟩
  | ⟨2, _⟩, _ => exact ⟨k.n3, k.a3⟩
  | ⟨3, _⟩, _ => exact ⟨k.n4, k.a4⟩
  | ⟨4, _⟩, hs => exact absurd (show 4 < 4 from hs) (lt_irrefl _)

/-- The fifth slot stays below what at most four scores of the lane reach. -/
theorem slot_fifth (h : ∀ l, Kept (a l) 784 (cellAt T I q l)) (hθ : ⊥ < θ) (hc : ∀ l, cge (a l) 784 θ ≤ 4) (s : Fin 5) (l : Fin 128)
    (ht : θ ≤ (T (ix2 q (colOf s l)) : EReal)) : s.val < 4 := by
  by_contra hs
  have e : s = 4 := Fin.ext (by have := s.isLt; show s.val = 4; omega)
  subst e
  have := ((h l).n5 θ hθ).mp ht
  have := hc l
  omega

theorem kept_chunk (h : ∀ l, Kept (a l) 784 (cellAt T I q l)) (hθ : ⊥ < θ) (hc : ∀ l, cge (a l) 784 θ ≤ 4)
    (s : Fin 5) (l : Fin 128) (ht : θ ≤ (T (ix2 q (colOf s l)) : EReal)) :
    ∃ n, n < 784 ∧ a l n = T (ix2 q (colOf s l)) ∧ rk (Finset.range 784) (a l) n = s.val ∧
      (colsOf (F := Ideal) I (ix2 q (colOf s l))).toInt = ((128 * n + l.val : ℕ) : ℤ) := by
  obtain ⟨n, hn, hI, ha, hr⟩ := (slot_at h s (slot_fifth h hθ hc s l ht) l).2 (lt_of_lt_of_le hθ ht)
  exact ⟨n, hn, ha, hr, col_at I q s l n hn hI⟩

/-- The cells that reach `θ` stand for the keys that do. -/
theorem stands (h : ∀ l, Kept (a l) 784 (cellAt T I q l)) (hθ : ⊥ < θ) (hc : ∀ l, cge (a l) 784 θ ≤ 4)
    (ha : ∀ l n, a l n = if h : 128 * n + l.val < 100000 then f ⟨128 * n + l.val, h⟩ else ⊥) :
    Stands (fun k : Fin 640 => (T (ix2 q k) : EReal)) (fun k => (colsOf (F := Ideal) I (ix2 q k)).toInt) f θ where
  floor := hθ
  real k ht := by
    obtain ⟨s, l, rfl⟩ := col_split k
    obtain ⟨n, hn, hv, -, hcol⟩ := kept_chunk h hθ hc s l ht
    have hlt : 128 * n + l.val < 100000 := by
      by_contra hge
      rw [ha, dif_neg hge] at hv
      exact absurd (lt_of_lt_of_le hθ ht) (by rw [← hv]; exact lt_irrefl _)
    refine ⟨⟨128 * n + l.val, hlt⟩, hcol, ?_⟩
    rw [ha, dif_pos hlt] at hv
    exact hv.symm
  one k k' ht ht' he := by
    obtain ⟨s, l, rfl⟩ := col_split k
    obtain ⟨s', l', rfl⟩ := col_split k'
    obtain ⟨n, hn, hv, hr, hcol⟩ := kept_chunk h hθ hc s l ht
    obtain ⟨n', hn', hv', hr', hcol'⟩ := kept_chunk h hθ hc s' l' ht'
    have e : 128 * n + l.val = 128 * n' + l'.val := by
      have := hcol.symm.trans (he.trans hcol')
      exact_mod_cast this
    have hl := l.isLt
    have hl' := l'.isLt
    obtain rfl : n = n' := by omega
    obtain rfl : l = l' := Fin.ext (by omega)
    obtain rfl : s = s' := Fin.ext (hr.symm.trans hr')
    rfl
  all i hi := by
    have hi' := i.isLt
    obtain ⟨n, hn⟩ : ∃ n, n = i.val / 128 := ⟨_, rfl⟩
    obtain ⟨l, hl⟩ : ∃ l : Fin 128, l.val = i.val % 128 := ⟨⟨i.val % 128, by omega⟩, rfl⟩
    have hi2 : 128 * n + l.val = i.val := by omega
    have hn7 : n < 784 := by omega
    have hv : a l n = f i := by
      rw [ha, dif_pos (by omega)]
      exact congrArg f (Fin.ext hi2)
    have hr : rk (Finset.range 784) (a l) n + 1 ≤ cge (a l) 784 θ := by
      unfold rk cge
      rw [← Finset.card_insert_of_notMem (a := n) (by simp [Before.irrefl])]
      refine Finset.card_le_card fun x hx => ?_
      rw [Finset.mem_insert] at hx
      rw [Finset.mem_filter]
      rcases hx with rfl | hx
      · exact ⟨Finset.mem_range.mpr hn7, by rw [hv]; exact hi⟩
      · rw [Finset.mem_filter] at hx
        exact ⟨hx.1, hi.trans (hv ▸ hx.2.le)⟩
    have hr4 := hr.trans (hc l)
    obtain ⟨s, hs⟩ : ∃ s : Fin 5, s.val = rk (Finset.range 784) (a l) n :=
      ⟨⟨rk (Finset.range 784) (a l) n, by omega⟩, rfl⟩
    have ht : θ ≤ (T (ix2 q (colOf s l)) : EReal) := ((slot_at h s (by omega) l).1 θ hθ).mpr (by omega)
    obtain ⟨n', hn', hv', hr', hcol⟩ := kept_chunk h hθ hc s l ht
    obtain rfl : n' = n := rk_inj (Finset.mem_range.mpr hn') (Finset.mem_range.mpr hn7) (hr'.trans hs)
    exact ⟨colOf s l, hv'.symm.trans hv, by rw [← hi2]; exact hcol⟩

end stands

end Cert.TopLanes
end
-- ==== Proof.TopK.lean ====
module

public import proofs.«01_k».proof.Proof.Rank
public import Idealize.ShloMosaic.Lib.Pipeline.Value
public import Idealize.ShloMosaic.Lib.ValueIdxCore
public import Idealize.ShloMosaic.PureOps.Ideal

@[expose] public section
noncomputable section

/-!
# The host's top-k, read

At place `r` of a row it has the row's entry of rank `r`, and that entry's index.
-/

namespace Cert.TopLanes

open Idealize.ShloMosaic Idealize.ShloMosaic.ValueIdx

variable {A B N k : ℕ}

theorem along_two (q : Fin A) (n c : Fin N) (h : 1 < (⟨2, ![A, N]⟩ : Shape).rank) :
    (ix2 q n : (⟨2, ![A, N]⟩ : Shape).Idx).along ⟨1, h⟩ c = ix2 q c := by
  funext a
  match a with
  | ⟨0, _⟩ => rfl
  | ⟨1, _⟩ => rfl

theorem along_three (q : Fin A) (l : Fin B) (n c : Fin N) (h : 2 < (⟨3, ![A, B, N]⟩ : Shape).rank) :
    (ix3 q l n : (⟨3, ![A, B, N]⟩ : Shape).Idx).along ⟨2, h⟩ c = ix3 q l c := by
  funext a
  match a with
  | ⟨0, _⟩ => rfl
  | ⟨1, _⟩ => rfl
  | ⟨2, _⟩ => rfl

theorem total_gt (x y : EReal) : (FloatOps.cmpfTotal (F := Ideal) (φ := .f32) .gt x y == 1#1) = decide (y < x) := by
  show (BitVec.ofBool (decide _) == 1#1) = _
  by_cases h : y < x
  · rw [decide_eq_true h]; simp [h]
  · rw [decide_eq_false h]; simp [h]

/-- Of a matrix, along its rows. -/
theorem topK_two (x : (⟨2, ![A, N]⟩ : Shape).Idx → Ideal .f32) (h : (⟨2, ![A, N]⟩ : Shape).Slices (fun _ => 0) ⟨2, ![A, k]⟩)
    (f : Fin N → EReal) (q : Fin A) (hf : ∀ n, x (ix2 q n) = f n) (r : Fin k) (hr : r.val < N) :
    (Host.topK ⟨2, ![A, k]⟩ 1 (FloatOps.cmpfTotal (F := Ideal) (φ := .f32) .gt) x h).1 (ix2 q r) = f (sortedFrom (gtPos f) ⟨r.val, hr⟩) ∧
    (Host.topK ⟨2, ![A, k]⟩ 1 (FloatOps.cmpfTotal (F := Ideal) (φ := .f32) .gt) x h).2 (ix2 q r) = BitVec.ofNat 32 (sortedFrom (gtPos f) ⟨r.val, hr⟩).val := by
  have hd : 1 < (⟨2, ![A, N]⟩ : Shape).rank := by show 1 < 2; omega
  have hg : (fun a b : Fin N => FloatOps.cmpfTotal (F := Ideal) (φ := .f32) .gt (x ((ix2 q (⟨r.val, hr⟩ : Fin N)).along ⟨1, hd⟩ a))
      (x ((ix2 q (⟨r.val, hr⟩ : Fin N)).along ⟨1, hd⟩ b)) == 1#1) = gtPos f := by
    funext a b
    rw [along_two q _ a hd, along_two q _ b hd, hf, hf]
    exact total_gt (f a) (f b)
  have hs : ∀ a : Fin 2, ((ix2 q (⟨r.val, hr⟩ : Fin N) : (⟨2, ![A, N]⟩ : Shape).Idx) a).val
      = 0 + ((ix2 q r : (⟨2, ![A, k]⟩ : Shape).Idx) (a.cast h.1)).val := fun a => by
    rw [Nat.zero_add]
    match a with
    | ⟨0, _⟩ => rfl
    | ⟨1, _⟩ => rfl
  have hsort : sortedFrom (fun a b : Fin N => FloatOps.cmpfTotal (F := Ideal) (φ := .f32) .gt (x ((ix2 q (⟨r.val, hr⟩ : Fin N)).along ⟨1, hd⟩ a))
      (x ((ix2 q (⟨r.val, hr⟩ : Fin N)).along ⟨1, hd⟩ b)) == 1#1) ⟨r.val, hr⟩ = sortedFrom (gtPos f) ⟨r.val, hr⟩ := by rw [hg]
  unfold Host.topK
  dsimp only
  constructor
  · refine (extractStridedSlice_apply _ _ h (ix2 q r) (ix2 q ⟨r.val, hr⟩) hs).trans ?_
    unfold Host.sort2
    rw [dif_pos hd]
    refine (congrArg (fun c : Fin N => x ((ix2 q (⟨r.val, hr⟩ : Fin N)).along ⟨1, hd⟩ c)) hsort).trans ?_
    exact (congrArg x (along_two q _ _ hd)).trans (hf _)
  · refine (extractStridedSlice_apply _ _ h (ix2 q r) (ix2 q ⟨r.val, hr⟩) hs).trans ?_
    unfold Host.sort2
    rw [dif_pos hd]
    exact congrArg (fun c : Fin N => BitVec.ofNat 32 c.val) hsort

/-- The scores of a stack of matrices, along its last axis. -/
theorem topK_three (x : (⟨3, ![A, B, N]⟩ : Shape).Idx → Ideal .f32)
    (h : (⟨3, ![A, B, N]⟩ : Shape).Slices (fun _ => 0) ⟨3, ![A, B, k]⟩)
    (f : Fin N → EReal) (q : Fin A) (l : Fin B) (hf : ∀ n, x (ix3 q l n) = f n) (r : Fin k) (hr : r.val < N) :
    (Host.topK ⟨3, ![A, B, k]⟩ 2 (FloatOps.cmpfTotal (F := Ideal) (φ := .f32) .gt) x h).1 (ix3 q l r) = f (sortedFrom (gtPos f) ⟨r.val, hr⟩) := by
  have hd : 2 < (⟨3, ![A, B, N]⟩ : Shape).rank := by show 2 < 3; omega
  have hg : (fun a b : Fin N => FloatOps.cmpfTotal (F := Ideal) (φ := .f32) .gt (x ((ix3 q l (⟨r.val, hr⟩ : Fin N)).along ⟨2, hd⟩ a))
      (x ((ix3 q l (⟨r.val, hr⟩ : Fin N)).along ⟨2, hd⟩ b)) == 1#1) = gtPos f := by
    funext a b
    rw [along_three q l _ a hd, along_three q l _ b hd, hf, hf]
    exact total_gt (f a) (f b)
  have hs : ∀ a : Fin 3, ((ix3 q l (⟨r.val, hr⟩ : Fin N) : (⟨3, ![A, B, N]⟩ : Shape).Idx) a).val
      = 0 + ((ix3 q l r : (⟨3, ![A, B, k]⟩ : Shape).Idx) (a.cast h.1)).val := fun a => by
    rw [Nat.zero_add]
    match a with
    | ⟨0, _⟩ => rfl
    | ⟨1, _⟩ => rfl
    | ⟨2, _⟩ => rfl
  have hsort : sortedFrom (fun a b : Fin N => FloatOps.cmpfTotal (F := Ideal) (φ := .f32) .gt (x ((ix3 q l (⟨r.val, hr⟩ : Fin N)).along ⟨2, hd⟩ a))
      (x ((ix3 q l (⟨r.val, hr⟩ : Fin N)).along ⟨2, hd⟩ b)) == 1#1) ⟨r.val, hr⟩ = sortedFrom (gtPos f) ⟨r.val, hr⟩ := by rw [hg]
  unfold Host.topK
  dsimp only
  refine (extractStridedSlice_apply _ _ h (ix3 q l r) (ix3 q l ⟨r.val, hr⟩) hs).trans ?_
  unfold Host.sort2
  rw [dif_pos hd]
  refine (congrArg (fun c : Fin N => x ((ix3 q l (⟨r.val, hr⟩ : Fin N)).along ⟨2, hd⟩ c)) hsort).trans ?_
  exact (congrArg x (along_three q l _ _ hd)).trans (hf _)

end Cert.TopLanes
end
-- ==== Proof.Wanted.lean ====
module

public import proofs.«01_k».proof.Proof.Scores
public import proofs.«01_k».proof.Proof.TopK
public import proofs.«01_k».proof.Proof.Gen.Pre_lanes_hold_four
public import Idealize.ShloMosaic.Lib.StackMember

@[expose] public section
noncomputable section

/-!
# The precondition, read

`best q r` is the key of rank `r` of row `q`. The precondition says that in every lane the fifth greatest score stays below that
of rank 9, so at most four scores of the lane reach it.
-/

namespace Cert.TopLanes

open Idealize.ShloMosaic Idealize.ShloMosaic.ValueIdx

variable (Q : (⟨2, ![1024, 128]⟩ : Shape).Idx → EReal) (K : (⟨2, ![100000, 128]⟩ : Shape).Idx → EReal)

/-- The host's product of the queries and the transposed keys at one place. -/
theorem host_score (h : (⟨2, ![100000, 128]⟩ : Shape).Transposes [1, 0] ⟨2, ![128, 100000]⟩) (q : Fin 1024) (n : Fin 100000) :
    (Host.dotGeneral (F := Ideal) (φ₁ := .f32) (φ₂ := .f32) (DotDims.plain 1024 128 100000) none Q
      (transpose ⟨2, ![128, 100000]⟩ [1, 0] K h) (ix2 q n) : EReal) = score Q K q n := by
  refine (StackMember.dotGeneral_plain_apply none Q (transpose ⟨2, ![128, 100000]⟩ [1, 0] K h) q n).trans ?_
  unfold score
  refine Finset.sum_congr rfl fun d _ => congrArg (Q (ix2 q d) * ·) ?_
  refine transpose_apply [1, 0] K h (ix2 d n) (ix2 n d) fun b => ?_
  match b with
  | ⟨0, _⟩ => rfl
  | ⟨1, _⟩ => rfl

/-- The key of rank `r`. -/
def best (q : Fin 1024) (r : ℕ) : Fin 100000 :=
  if h : r < 100000 then sortedFrom (gtPos (score Q K q)) ⟨r, h⟩ else ⟨0, by omega⟩

theorem best_rank (q : Fin 1024) (r : ℕ) (hr : r ≤ 9) : rk Finset.univ (score Q K q) (best Q K q r) = r := by
  unfold best
  rw [dif_pos (by omega)]
  exact rk_sortedFrom _ _

/-- When the entry of rank 4 of a lane's 782 chunks stays below `θ`, at most four of its scores reach it. -/
theorem few (q : Fin 1024) (l : Fin 128) (θ : EReal) (hθ : ⊥ < θ) (p : Fin 782)
    (hp : rk Finset.univ (fun n : Fin 782 => scoreN Q K q (128 * n.val + l.val)) p = 4) (hlt : scoreN Q K q (128 * p.val + l.val) < θ) :
    cge (fun n => scoreN Q K q (128 * n + l.val)) 784 θ ≤ 4 := by
  rw [← hp]
  unfold cge rk
  refine le_trans (Finset.card_le_card ?_) (Finset.card_image_le (f := fun n : Fin 782 => n.val))
  intro n hn
  rw [Finset.mem_filter] at hn
  have hn2 : n < 782 := by
    by_contra hge
    have h : θ ≤ scoreN Q K q (128 * n + l.val) := hn.2
    rw [scoreN, dif_neg (by omega)] at h
    exact absurd hθ (not_lt.mpr h)
  rw [Finset.mem_image]
  exact ⟨⟨n, hn2⟩, Finset.mem_filter.mpr ⟨Finset.mem_univ _, Or.inl (lt_of_lt_of_le hlt hn.2)⟩, rfl⟩

open Cert.Pre_lanes_hold_four Cert.Pre_lanes_hold_four.Facts

/-- The padded scores. -/
theorem padded_score (h : S100000x128.Transposes [1, 0] S128x100000) (q : Fin 1024) (n : Fin 100096) :
    (fn_pad (F := Ideal) (Host.dotGeneral (F := Ideal) (φ₁ := .f32) (φ₂ := .f32) dot_S1024x128_S128x100000_S1024x100000_1_0_0_1_n_n none Q
      (transpose S128x100000 [1, 0] K h)) (constant S_ .f32 0xFF800000#32) (ix2 q n) : EReal) = scoreN Q K q n.val := by
  unfold fn_pad
  dsimp only
  by_cases hn : n.val < 100000
  · rw [scoreN, dif_pos hn, ← host_score Q K h q ⟨n.val, hn⟩]
    refine pad_apply_of_inside _ _ _ _ _ pads_S1024x100000_S1024x100096_000_0960 h_S_ (ix2 q n) (ix2 q ⟨n.val, hn⟩) fun a => ?_
    match a with
    | ⟨0, _⟩ => show q.val = 0 + q.val * (0 + 1); omega
    | ⟨1, _⟩ => show n.val = 0 + n.val * (0 + 1); omega
  · rw [scoreN, dif_neg hn]
    refine (pad_apply_of_not_inside _ _ _ _ _ pads_S1024x100000_S1024x100096_000_0960 h_S_ (ix2 q n) (1 : Fin 2) ?_).trans ?_
    · show ¬ (0 ≤ n.val ∧ (n.val - 0) % (0 + 1) = 0 ∧ (n.val - 0) / (0 + 1) < 100000)
      omega
    · show FloatOps.ofBits (F := Ideal) .f32 0xFF800000#32 = (⊥ : EReal)
      simp [FloatOps.ofBits, Ideal.ofBits, Ideal.ieee]

/-- A lane's scores, chunk by chunk. -/
theorem lane_score (x : S1024x100096.Idx → EReal) (h : S1024x100096.ShapeCasts S1024x782x128)
    (h' : S1024x782x128.Transposes [0, 2, 1] S1024x128x782) (q : Fin 1024) (l : Fin 128) (n : Fin 782) :
    transpose S1024x128x782 [0, 2, 1] (shapeCast S1024x782x128 x h) h' (ix3 q l n)
      = x (ix2 q ⟨128 * n.val + l.val, by have := n.isLt; have := l.isLt; omega⟩) := by
  refine (transpose_apply [0, 2, 1] _ h' (ix3 q l n) (ix3 q n l) fun b => ?_).trans ?_
  · match b with
    | ⟨0, _⟩ => rfl
    | ⟨1, _⟩ => rfl
    | ⟨2, _⟩ => rfl
  · refine shapeCast_apply x h (ix3 q n l) _ ?_
    rw [Shape.rowMajor_val_two, Shape.rowMajor_val_three]
    show q.val * 100096 + (128 * n.val + l.val) = (q.val * 782 + n.val) * 128 + l.val
    omega

theorem below (x y : EReal) (h : Ideal.cmp .olt x y = 1#1) : x < y := by
  unfold Ideal.cmp at h
  by_contra hn
  simp [hn] at h

/-- The fifth of a lane. -/
theorem fifth_at (x : S1024x128x782.Idx → Ideal .f32) (g : Fin 782 → EReal) (q : Fin 1024) (l : Fin 128)
    (hx : ∀ n, x (ix3 q l n) = g n) :
    shapeCast S1024x128 (extractStridedSlice S1024x128x1 ![0, 0, 4] (Host.topK S1024x128x5 2 (FloatOps.cmpfTotal (F := Ideal) (φ := .f32) .gt) x
      sliceFits_S1024x128x782_S1024x128x5).1 slices_S1024x128x5_S1024x128x1_0_0_4) shapeCasts_S1024x128x1_S1024x128 (ix2 q l)
      = g (sortedFrom (gtPos g) ⟨4, by omega⟩) := by
  refine (shapeCast_apply _ shapeCasts_S1024x128x1_S1024x128 (ix2 q l) (ix3 q l (0 : Fin 1)) ?_).trans ?_
  · rw [Shape.rowMajor_val_two, Shape.rowMajor_val_three]
    show (q.val * 128 + l.val) * 1 + 0 = q.val * 128 + l.val
    omega
  refine (extractStridedSlice_apply ![0, 0, 4] _ slices_S1024x128x5_S1024x128x1_0_0_4 (ix3 q l (0 : Fin 1)) (ix3 q l (4 : Fin 5)) fun a => ?_).trans ?_
  · match a with
    | ⟨0, _⟩ => show q.val = 0 + q.val; omega
    | ⟨1, _⟩ => show l.val = 0 + l.val; omega
    | ⟨2, _⟩ => rfl
  exact topK_three x sliceFits_S1024x128x782_S1024x128x5 g q l hx (4 : Fin 5) (by decide)

/-- The tenth of a row. -/
theorem tenth_at (y : S1024x100000.Idx → Ideal .f32) (f : Fin 100000 → EReal) (q : Fin 1024) (l : Fin 128)
    (hy : ∀ n, y (ix2 q n) = f n) :
    broadcastInDim S1024x128 ![0, 1] bcast_S1024x1_S1024x128_0_1 (extractStridedSlice S1024x1 ![0, 9]
      (Host.topK S1024x10 1 (FloatOps.cmpfTotal (F := Ideal) (φ := .f32) .gt) y sliceFits_S1024x100000_S1024x10).1 slices_S1024x10_S1024x1_0_9) (ix2 q l)
      = f (sortedFrom (gtPos f) ⟨9, by omega⟩) := by
  refine (broadcastInDim_apply ![0, 1] bcast_S1024x1_S1024x128_0_1 _ (ix2 q l) (ix2 q (0 : Fin 1)) fun a => ?_).trans ?_
  · match a with
    | ⟨0, _⟩ => rfl
    | ⟨1, _⟩ => rfl
  refine (extractStridedSlice_apply ![0, 9] _ slices_S1024x10_S1024x1_0_9 (ix2 q (0 : Fin 1)) (ix2 q (9 : Fin 10)) fun a => ?_).trans ?_
  · match a with
    | ⟨0, _⟩ => show q.val = 0 + q.val; omega
    | ⟨1, _⟩ => rfl
  exact (topK_two y sliceFits_S1024x100000_S1024x10 f q hy (9 : Fin 10) (by decide)).1

/-- The precondition at one row and lane. -/
theorem fifth_below (h : fn (F := Ideal) Q K = fun _ => 1#1) (q : Fin 1024) (l : Fin 128) (g : Fin 782 → EReal)
    (hg : ∀ n, g n = scoreN Q K q (128 * n.val + l.val)) :
    g (sortedFrom (gtPos g) ⟨4, by omega⟩) < score Q K q (sortedFrom (gtPos (score Q K q)) ⟨9, by omega⟩) := by
  have h1 := congrFun h (ix2 q l)
  unfold fn at h1
  dsimp only at h1
  have h2 := below _ _ h1
  have e7 := fifth_at _ g q l (fun n => (lane_score _ shapeCasts_S1024x100096_S1024x782x128
    transposes_S1024x782x128_S1024x128x782_0_2_1 q l n).trans
      ((padded_score Q K transposes_S100000x128_S128x100000_1_0 q _).trans (hg n).symm))
  have e8 := tenth_at _ (score Q K q) q l (fun n => host_score Q K transposes_S100000x128_S128x100000_1_0 q n)
  exact lt_of_eq_of_lt e7.symm (lt_of_lt_of_eq h2 e8)

/-- What the precondition gives. -/
theorem wanted (h : fn (F := Ideal) Q K = fun _ => 1#1) (q : Fin 1024) (l : Fin 128) :
    ⊥ < score Q K q (best Q K q 9) ∧
      cge (fun n => scoreN Q K q (128 * n + l.val)) 784 (score Q K q (best Q K q 9)) ≤ 4 := by
  obtain ⟨g, hg⟩ : ∃ g : Fin 782 → EReal, g = fun n => scoreN Q K q (128 * n.val + l.val) := ⟨_, rfl⟩
  have h3 := fifth_below Q K h q l g (fun n => congrFun hg n)
  have e : best Q K q 9 = sortedFrom (gtPos (score Q K q)) ⟨9, by omega⟩ := by
    unfold best
    rw [dif_pos (by omega)]
  rw [← e] at h3
  have hb := lt_of_le_of_lt bot_le h3
  have hr := rk_sortedFrom g ⟨4, by omega⟩
  generalize sortedFrom (gtPos g) ⟨4, by omega⟩ = p at h3 hr
  subst hg
  exact ⟨hb, few Q K q l _ hb p hr h3⟩

end Cert.TopLanes
end
-- ==== Proof.Results.lean ====
module

public import proofs.«01_k».proof.Proof.Grid
public import proofs.«01_k».proof.Proof.Columns
public import proofs.«01_k».proof.Proof.Wanted

@[expose] public section
noncomputable section

/-!
# Both results

Under the precondition the kernel's two results are the values and the indices of the host's top-k of the host's scores.
-/

namespace Cert.TopLanes

open Idealize.ShloMosaic Idealize.ShloMosaic.ValueIdx Cert.KernelIdeal Cert.KernelIdeal.Gen Cert.KernelIdeal.Value

variable (m : (ℓ : Loc nD τ sig) → Buf (Elt Ideal) ℓ) (c : Dev nD)

/-- The two results at one place: the score and the number of the key of that rank. -/
theorem results_at (h : Cert.Pre_lanes_hold_four.fn (F := Ideal) (queries m c) (keys m c) = fun _ => 1#1) :
    ∀ (q : Fin 1024) (r : Fin 10), (G2 m c (ix2 q r) : EReal) = score (queries m c) (keys m c) q (best (queries m c) (keys m c) q r.val) ∧
      G3 m c (ix2 q r) = BitVec.ofNat 32 (best (queries m c) (keys m c) q r.val).val := by
  obtain ⟨T, I, hH, e2, e3⟩ := results m c
  intro q r
  have hS := stands (a := fun l => laneScores m c q l) (T := T) (I := I) (q := q) (f := score (queries m c) (keys m c) q)
    (fun l => hH q l) (wanted _ _ h q 0).1 (fun l => (wanted _ _ h q l).2) (fun _ _ => rfl)
  have hp := best_rank (queries m c) (keys m c) q
  rw [e2, e3]
  exact ⟨tenT_at _ T q hS hp rfl r, tenI_at _ T q le_rfl hS hp rfl r⟩

variable (ht : (⟨2, ![100000, 128]⟩ : Shape).Transposes [1, 0] ⟨2, ![128, 100000]⟩)
  (hs : (⟨2, ![1024, 100000]⟩ : Shape).Slices (fun _ => 0) ⟨2, ![1024, 10]⟩)

theorem wanted_at (Q : S1024x128.Idx → Ideal .f32) (K : S100000x128.Idx → Ideal .f32) (q : Fin 1024) (r : Fin 10) :
    ((Host.topK ⟨2, ![1024, 10]⟩ 1 (FloatOps.cmpfTotal (F := Ideal) (φ := .f32) .gt)
        (Host.dotGeneral (F := Ideal) (φ₁ := .f32) (φ₂ := .f32) (DotDims.plain 1024 128 100000) none Q
          (transpose ⟨2, ![128, 100000]⟩ [1, 0] K ht)) hs).1 (ix2 q r) : EReal) = score Q K q (best Q K q r.val) ∧
    (Host.topK ⟨2, ![1024, 10]⟩ 1 (FloatOps.cmpfTotal (F := Ideal) (φ := .f32) .gt)
        (Host.dotGeneral (F := Ideal) (φ₁ := .f32) (φ₂ := .f32) (DotDims.plain 1024 128 100000) none Q
          (transpose ⟨2, ![128, 100000]⟩ [1, 0] K ht)) hs).2 (ix2 q r) = BitVec.ofNat 32 (best Q K q r.val).val := by
  have hr : r.val < 100000 := by have := r.isLt; omega
  have h := topK_two (A := 1024) (N := 100000) (k := 10) _ hs (score Q K q) q (fun n => host_score Q K ht q n) r hr
  unfold best
  rw [dif_pos hr]
  exact h

/-- The values. -/
theorem values_eq (h : Cert.Pre_lanes_hold_four.fn (F := Ideal) (queries m c) (keys m c) = fun _ => 1#1) :
    (Host.topK ⟨2, ![1024, 10]⟩ 1 (FloatOps.cmpfTotal (F := Ideal) (φ := .f32) .gt)
      (Host.dotGeneral (F := Ideal) (φ₁ := .f32) (φ₂ := .f32) (DotDims.plain 1024 128 100000) none (queries m c)
        (transpose ⟨2, ![128, 100000]⟩ [1, 0] (keys m c) ht)) hs).1 = G2 m c := by
  funext i
  rw [show i = ix2 (n0 := 1024) (n1 := 10) (i 0) (i 1) from eq_ix2 i]
  exact (wanted_at ht hs _ _ (i 0) (i 1)).1.trans (results_at m c h (i 0) (i 1)).1.symm

/-- The indices. -/
theorem indices_eq (h : Cert.Pre_lanes_hold_four.fn (F := Ideal) (queries m c) (keys m c) = fun _ => 1#1) :
    (Host.topK ⟨2, ![1024, 10]⟩ 1 (FloatOps.cmpfTotal (F := Ideal) (φ := .f32) .gt)
      (Host.dotGeneral (F := Ideal) (φ₁ := .f32) (φ₂ := .f32) (DotDims.plain 1024 128 100000) none (queries m c)
        (transpose ⟨2, ![128, 100000]⟩ [1, 0] (keys m c) ht)) hs).2 = G3 m c := by
  funext i
  rw [show i = ix2 (n0 := 1024) (n1 := 10) (i 0) (i 1) from eq_ix2 i]
  exact (wanted_at ht hs _ _ (i 0) (i 1)).2.trans (results_at m c h (i 0) (i 1)).2.symm

end Cert.TopLanes
end
-- ==== Proof.lean ====
/-
  The certificate: version v08 of the kernel runs to the end without a fault, leaves its arguments as they were and every
  semaphore at zero; so do its idealization and the reference; and under the precondition the idealization's two results are the
  reference's values and indices. The frames are the generated runs; the results are `Proof/Results.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_lanes_hold_four
public import proofs.«01_k».proof.Proof.Gen.KernelIdeal.Value
public import proofs.«01_k».proof.Proof.Gen.ReferenceIdeal.Run
public import proofs.«01_k».proof.Proof.Results
public import Idealize.ShloMosaic.Lib.Quiescent
public import Idealize.ShloMosaic.Adequacy
public import Idealize.ShloMosaic.Init

@[expose] public section

noncomputable section

namespace Cert.Proof

open Idealize.ShloMosaic Idealize.SL.Sem

/-- The two programs' results are equal where the precondition holds. -/
theorem algebraic : Cert.algebraic_KernelIdeal_ReferenceIdeal_pre_lanes_hold_four
    (hKernelIdeal := Cert.KernelIdeal.Gen.facts) (hReferenceIdeal := Cert.ReferenceIdeal.Gen.facts)
    (hPre_lanes_hold_four := Cert.Pre_lanes_hold_four.Gen.facts) := by
  intro m g m' g' hpre hargs
  refine ⟨Cert.KernelIdeal.Value.G2 m, Cert.KernelIdeal.Value.G3 m, Cert.KernelIdeal.Value.run m g, ?_⟩
  refine (θ_run _ _ _).mono (fun r h c => ?_) (Cert.ReferenceIdeal.Value.run m' g')
  obtain ⟨h0, h1, h2, h3⟩ := h c
  obtain ⟨a0, a1⟩ := hargs c
  refine ⟨h0.trans ?_, h1.trans ?_, h2, h3⟩
  · rw [a0, a1]
    exact Cert.TopLanes.values_eq m c _ _ (hpre c)
  · rw [a0, a1]
    exact Cert.TopLanes.indices_eq m c _ _ (hpre c)

/-- The reference runs to the end with its arguments unchanged; it declares no semaphore. -/
theorem reference_frame : Cert.quiescent_ReferenceIdeal (hReferenceIdeal := Cert.ReferenceIdeal.Gen.facts) := fun m g _ =>
  (θ_run Cert.ReferenceIdeal.defs _ _).mono
    (fun r h => ⟨fun c => (h c).2.2, sem_eq_zero_of_no_sems (by decide) r.2⟩) (Cert.ReferenceIdeal.Value.run m g)

theorem claim : Cert.Claim :=
  ⟨Cert.Kernel.Gen.facts, Cert.KernelIdeal.Gen.facts, Cert.ReferenceIdeal.Gen.facts, Cert.Pre_lanes_hold_four.Gen.facts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
